-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "tenth" .f32 0x3DCCCCCD#32 ((1 / 10 : ℝ) : EReal)
  ∧ IdealRules.named_const.Statement Cert.KernelIdeal.κ "hundredth" .f32 0x3C23D70A#32 ((1 / 100 : ℝ) : EReal)

def algebraic_KernelIdeal_ReferenceIdeal_on_claimed [hKernelIdeal : Cert.KernelIdeal.Facts] [hReferenceIdeal : Cert.ReferenceIdeal.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v2_0) i = v0 c i)
          ∧ (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v2_1) i = v1 c i)
          ∧ (∀ i : (⟨2, ![2816, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v2_2) i = v2 c i)
          ∧ (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v2_3) i = v3 c i)
          ∧ (∀ i : (⟨2, ![2816, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.KernelIdeal.nD Cert.KernelIdeal.τ).loc Cert.KernelIdeal.main_v2_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v2_0) i = v0 c i)
          ∧ (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v2_1) i = v1 c i)
          ∧ (∀ i : (⟨2, ![2816, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v2_2) i = v2 c i)
          ∧ (∀ i : (⟨2, ![2816, 8192]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v2_3) i = v3 c i)
          ∧ (∀ i : (⟨2, ![2816, 64]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 i = 1#1 → r.2.mem ((c.tc : Thread Cert.ReferenceIdeal.nD Cert.ReferenceIdeal.τ).loc Cert.ReferenceIdeal.main_v2_4) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_claimed : Cert.On_claimed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_claimed (hKernelIdeal := hKernelIdeal) (hReferenceIdeal := hReferenceIdeal) (hOn_claimed := hOn_claimed)
-- ==== On_claimed.lean ====
abbrev S2816x8192 : Shape := ⟨2, ![2816, 8192]⟩
abbrev S2816x64 : Shape := ⟨2, ![2816, 64]⟩
abbrev S_ : Shape := ⟨0, ![]⟩

class Facts : Prop where
  bcast_S_S2816x8192 : S_.BroadcastsInDim S2816x8192 (![] : Fin 0 → Fin S2816x8192.rank)
  bcast_S_S2816x64 : S_.BroadcastsInDim S2816x64 (![] : Fin 0 → Fin S2816x64.rank)

variable [Facts]

def fn {F : FTy → Type} [FloatOps F] (main_arg0 : FVec F S2816x8192 .f32) (main_arg1 : FVec F S2816x8192 .bf16) (main_arg2 : IVec S2816x8192 8) (main_arg3 : FVec F S2816x64 .f32) (main_arg4 : IVec S2816x8192 8) (main_arg5 : FVec F S2816x64 .f32) (main_arg6 : IVec S_ 32) (main_arg7 : FVec F S_ .f32) : IVec S2816x8192 1 × IVec S2816x8192 1 × IVec S2816x64 1 × IVec S2816x8192 1 × IVec S2816x64 1 :=
  let main_c : IVec S_ 1 := constantI S_ 1 1#1
  let main_v0 : IVec S2816x8192 1 := broadcastInDim S2816x8192 ![] bcast_S_S2816x8192 main_c
  let main_c_0 : IVec S_ 1 := constantI S_ 1 1#1
  let main_v1 : IVec S2816x64 1 := broadcastInDim S2816x64 ![] bcast_S_S2816x64 main_c_0
  let main_c_1 : IVec S_ 1 := constantI S_ 1 0#1
  let main_v2 : IVec S2816x8192 1 := broadcastInDim S2816x8192 ![] bcast_S_S2816x8192 main_c_1
  (main_v2, main_v0, main_v1, main_v0, main_v1)
-- ==== Kernel.lean ====
abbrev S2816x8192 : Shape := ⟨2, ![2816, 8192]⟩
abbrev S2816x64 : Shape := ⟨2, ![2816, 64]⟩
abbrev S_ : Shape := ⟨0, ![]⟩
abbrev S1 : Shape := ⟨1, ![1]⟩
abbrev S64x8192 : Shape := ⟨2, ![64, 8192]⟩
abbrev S64x64 : Shape := ⟨2, ![64, 64]⟩
abbrev S8x128 : Shape := ⟨2, ![8, 128]⟩
abbrev S44 : Shape := ⟨1, ![44]⟩
abbrev S1x1 : Shape := ⟨2, ![1, 1]⟩
abbrev S8x1024 : Shape := ⟨2, ![8, 1024]⟩
abbrev S16x1024 : Shape := ⟨2, ![16, 1024]⟩
abbrev S8 : Shape := ⟨1, ![8]⟩
abbrev S8x1 : Shape := ⟨2, ![8, 1]⟩
abbrev S32x64 : Shape := ⟨2, ![32, 64]⟩
abbrev S32x128 : Shape := ⟨2, ![32, 128]⟩
abbrev S32x1 : Shape := ⟨2, ![32, 1]⟩
abbrev S32 : Shape := ⟨1, ![32]⟩

abbrev nBuf : Space → Nat
  | .hbm => 15
  | .vmem => 22
  | .smem => 2
  | _ => 0

abbrev bufTy : (tb : Table) → Fin (tcTables nBuf tb) → BufTy
  | .hbm, ⟨0, _⟩ => ⟨S2816x8192, .f32⟩
  | .hbm, ⟨1, _⟩ => ⟨S2816x8192, .bf16⟩
  | .hbm, ⟨2, _⟩ => ⟨S2816x8192, .i8⟩
  | .hbm, ⟨3, _⟩ => ⟨S2816x64, .f32⟩
  | .hbm, ⟨4, _⟩ => ⟨S2816x8192, .i8⟩
  | .hbm, ⟨5, _⟩ => ⟨S2816x64, .f32⟩
  | .hbm, ⟨6, _⟩ => ⟨S_, .i32⟩
  | .hbm, ⟨7, _⟩ => ⟨S_, .f32⟩
  | .hbm, ⟨8, _⟩ => ⟨S1, .i32⟩
  | .hbm, ⟨9, _⟩ => ⟨S1, .f32⟩
  | .hbm, ⟨10, _⟩ => ⟨S2816x8192, .f32⟩
  | .hbm, ⟨11, _⟩ => ⟨S2816x8192, .i8⟩
  | .hbm, ⟨12, _⟩ => ⟨S2816x64, .f32⟩
  | .hbm, ⟨13, _⟩ => ⟨S2816x8192, .i8⟩
  | .hbm, ⟨14, _⟩ => ⟨S2816x64, .f32⟩
  | .local _ .vmem, ⟨0, _⟩ => ⟨S64x8192, .f32⟩
  | .local _ .vmem, ⟨1, _⟩ => ⟨S64x8192, .f32⟩
  | .local _ .vmem, ⟨2, _⟩ => ⟨S64x8192, .i8⟩
  | .local _ .vmem, ⟨3, _⟩ => ⟨S64x8192, .i8⟩
  | .local _ .vmem, ⟨4, _⟩ => ⟨S64x64, .f32⟩
  | .local _ .vmem, ⟨5, _⟩ => ⟨S64x64, .f32⟩
  | .local _ .vmem, ⟨6, _⟩ => ⟨S64x8192, .i8⟩
  | .local _ .vmem, ⟨7, _⟩ => ⟨S64x8192, .i8⟩
  | .local _ .vmem, ⟨8, _⟩ => ⟨S64x64, .f32⟩
  | .local _ .vmem, ⟨9, _⟩ => ⟨S64x64, .f32⟩
  | .local _ .vmem, ⟨10, _⟩ => ⟨S64x8192, .f32⟩
  | .local _ .vmem, ⟨11, _⟩ => ⟨S64x8192, .f32⟩
  | .local _ .vmem, ⟨12, _⟩ => ⟨S64x8192, .i8⟩
  | .local _ .vmem, ⟨13, _⟩ => ⟨S64x8192, .i8⟩
  | .local _ .vmem, ⟨14, _⟩ => ⟨S64x64, .f32⟩
  | .local _ .vmem, ⟨15, _⟩ => ⟨S64x64, .f32⟩
  | .local _ .vmem, ⟨16, _⟩ => ⟨S64x8192, .i8⟩
  | .local _ .vmem, ⟨17, _⟩ => ⟨S64x8192, .i8⟩
  | .local _ .vmem, ⟨18, _⟩ => ⟨S64x64, .f32⟩
  | .local _ .vmem, ⟨19, _⟩ => ⟨S64x64, .f32⟩
  | .local _ .vmem, ⟨20, _⟩ => ⟨S2816x8192, .bf16⟩
  | .local _ .vmem, ⟨21, _⟩ => ⟨S8x128, .f32⟩
  | .local _ .smem, ⟨0, _⟩ => ⟨S1, .i32⟩
  | .local _ .smem, ⟨1, _⟩ => ⟨S1, .f32⟩
  | _, _ => ⟨S2816x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![44], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_338 : BitVec 32 := 0#32
  let c44_i32 : BitVec 32 := 44#32
  let v573 : BitVec 32 := Scalar.addi c0_i32_338 c44_i32
  let c1_i32_339 : BitVec 32 := 1#32
  ⟨c0_i32_338, v573, c1_i32_339⟩
def k0_off1 (k0_t1 : Fin k0_t1_loop.trips) : Fin 1 → Nat :=
  let c0_i32_338 : BitVec 32 := 0#32
  let c1_i32_339 : BitVec 32 := 1#32
  let arg17 : BitVec 32 := Scf.iv c0_i32_338 c1_i32_339 k0_t1
  ![arg17.toNat]
def k0_off2 (k0_t1 : Fin k0_t1_loop.trips) : Fin 2 → Nat :=
  let c0_i32_338 : BitVec 32 := 0#32
  let c1_i32_339 : BitVec 32 := 1#32
  let arg17 : BitVec 32 := Scf.iv c0_i32_338 c1_i32_339 k0_t1
  let c64_i32_347 : BitVec 32 := 64#32
  let v590 : BitVec 32 := Scalar.muli arg17 c64_i32_347
  let c0_i32_348 : BitVec 32 := 0#32
  ![v590.toNat, 0]
@[reducible] def k0_t2_loop : Scf.Loop 32 :=
  let c0_i32_350 : BitVec 32 := 0#32
  let c4_i32_351 : BitVec 32 := 4#32
  let v595 : BitVec 32 := Scalar.addi c0_i32_350 c4_i32_351
  let c1_i32_352 : BitVec 32 := 1#32
  ⟨c0_i32_350, v595, c1_i32_352⟩
def k0_off3 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_354 : BitVec 32 := 64#32
  let v597 : BitVec 32 := Scalar.muli arg17 c64_i32_354
  let c0_i32_350 : BitVec 32 := 0#32
  let c1_i32_352 : BitVec 32 := 1#32
  let arg19 : BitVec 32 := Scf.iv c0_i32_350 c1_i32_352 k0_t2
  let c16_i32_355 : BitVec 32 := 16#32
  let v598 : BitVec 32 := Scalar.muli arg19 c16_i32_355
  let v599 : BitVec 32 := Scalar.addi v597 v598
  let v600 : Index := Scalar.indexCast v599
  let c0_356 : Index := 0#32
  ![v600.toNat, 0]
def k0_off4 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_357 : BitVec 32 := 64#32
  let v610 : BitVec 32 := Scalar.muli arg17 c64_i32_357
  let c0_i32_350 : BitVec 32 := 0#32
  let c1_i32_352 : BitVec 32 := 1#32
  let arg19 : BitVec 32 := Scf.iv c0_i32_350 c1_i32_352 k0_t2
  let c16_i32_358 : BitVec 32 := 16#32
  let v611 : BitVec 32 := Scalar.muli arg19 c16_i32_358
  let v612 : BitVec 32 := Scalar.addi v610 v611
  let v613 : Index := Scalar.indexCast v612
  let c1024 : Index := 1024#32
  ![v613.toNat, 1024]
def k0_off5 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_359 : BitVec 32 := 64#32
  let v623 : BitVec 32 := Scalar.muli arg17 c64_i32_359
  let c0_i32_350 : BitVec 32 := 0#32
  let c1_i32_352 : BitVec 32 := 1#32
  let arg19 : BitVec 32 := Scf.iv c0_i32_350 c1_i32_352 k0_t2
  let c16_i32_360 : BitVec 32 := 16#32
  let v624 : BitVec 32 := Scalar.muli arg19 c16_i32_360
  let v625 : BitVec 32 := Scalar.addi v623 v624
  let v626 : Index := Scalar.indexCast v625
  let c2048 : Index := 2048#32
  ![v626.toNat, 2048]
def k0_off6 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_361 : BitVec 32 := 64#32
  let v636 : BitVec 32 := Scalar.muli arg17 c64_i32_361
  let c0_i32_350 : BitVec 32 := 0#32
  let c1_i32_352 : BitVec 32 := 1#32
  let arg19 : BitVec 32 := Scf.iv c0_i32_350 c1_i32_352 k0_t2
  let c16_i32_362 : BitVec 32 := 16#32
  let v637 : BitVec 32 := Scalar.muli arg19 c16_i32_362
  let v638 : BitVec 32 := Scalar.addi v636 v637
  let v639 : Index := Scalar.indexCast v638
  let c3072 : Index := 3072#32
  ![v639.toNat, 3072]
def k0_off7 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_363 : BitVec 32 := 64#32
  let v649 : BitVec 32 := Scalar.muli arg17 c64_i32_363
  let c0_i32_350 : BitVec 32 := 0#32
  let c1_i32_352 : BitVec 32 := 1#32
  let arg19 : BitVec 32 := Scf.iv c0_i32_350 c1_i32_352 k0_t2
  let c16_i32_364 : BitVec 32 := 16#32
  let v650 : BitVec 32 := Scalar.muli arg19 c16_i32_364
  let v651 : BitVec 32 := Scalar.addi v649 v650
  let v652 : Index := Scalar.indexCast v651
  let c4096 : Index := 4096#32
  ![v652.toNat, 4096]
def k0_off8 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_365 : BitVec 32 := 64#32
  let v662 : BitVec 32 := Scalar.muli arg17 c64_i32_365
  let c0_i32_350 : BitVec 32 := 0#32
  let c1_i32_352 : BitVec 32 := 1#32
  let arg19 : BitVec 32 := Scf.iv c0_i32_350 c1_i32_352 k0_t2
  let c16_i32_366 : BitVec 32 := 16#32
  let v663 : BitVec 32 := Scalar.muli arg19 c16_i32_366
  let v664 : BitVec 32 := Scalar.addi v662 v663
  let v665 : Index := Scalar.indexCast v664
  let c5120 : Index := 5120#32
  ![v665.toNat, 5120]
def k0_off9 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_367 : BitVec 32 := 64#32
  let v675 : BitVec 32 := Scalar.muli arg17 c64_i32_367
  let c0_i32_350 : BitVec 32 := 0#32
  let c1_i32_352 : BitVec 32 := 1#32
  let arg19 : BitVec 32 := Scf.iv c0_i32_350 c1_i32_352 k0_t2
  let c16_i32_368 : BitVec 32 := 16#32
  let v676 : BitVec 32 := Scalar.muli arg19 c16_i32_368
  let v677 : BitVec 32 := Scalar.addi v675 v676
  let v678 : Index := Scalar.indexCast v677
  let c6144 : Index := 6144#32
  ![v678.toNat, 6144]
def k0_off10 (k0_t1 : Fin k0_t1_loop.trips) (k0_t2 : Fin k0_t2_loop.trips) : Fin 2 → Nat :=
  let c0_i32_338 : BitVec 32 := 0#32
  let c1_i32_339 : BitVec 32 := 1#32
  let arg17 : BitVec 32 := Scf.iv c0_i32_338 c1_i32_339 k0_t1
  let c64_i32_369 : BitVec 32 := 64#32
  let v688 : BitVec 32 := Scalar.muli arg17 c64_i32_369
  let c0_i32_350 : BitVec 32 := 0#32
  let c1_i32_352 : BitVec 32 := 1#32
  let arg19 : BitVec 32 := Scf.iv c0_i32_350 c1_i32_352 k0_t2
  let c16_i32_370 : BitVec 32 := 16#32
  let v689 : BitVec 32 := Scalar.muli arg19 c16_i32_370
  let v690 : BitVec 32 := Scalar.addi v688 v689
  let v691 : Index := Scalar.indexCast v690
  let c7168 : Index := 7168#32
  ![v691.toNat, 7168]
@[reducible] def k0_t3_loop : Scf.Loop 32 :=
  let c0_i32_167 : BitVec 32 := 0#32
  let c2_i32_168 : BitVec 32 := 2#32
  let v391 : BitVec 32 := Scalar.addi c0_i32_167 c2_i32_168
  let c1_i32_169 : BitVec 32 := 1#32
  ⟨c0_i32_167, v391, c1_i32_169⟩
def k0_mult1 (k0_t3 : Fin k0_t3_loop.trips) : BitVec 32 :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  v392
def k0_mult2 (i : grid0.Coords) (k0_t3 : Fin k0_t3_loop.trips) : BitVec 32 :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  v396
def k0_off11 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v398 : Index := Scalar.indexCast v393
  let c0_172 : Index := 0#32
  ![v398.toNat, 0]
def k0_off12 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v411 : Index := Scalar.indexCast v397
  let c0_179 : Index := 0#32
  ![v411.toNat, 0]
def k0_off13 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v416 : Index := Scalar.indexCast v393
  let c0_180 : Index := 0#32
  ![v416.toNat, 0]
def k0_off14 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v499 : Index := Scalar.indexCast v397
  let c128 : Index := 128#32
  ![v499.toNat, 128]
def k0_off15 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v504 : Index := Scalar.indexCast v393
  let c128_204 : Index := 128#32
  ![v504.toNat, 128]
def k0_off16 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v587 : Index := Scalar.indexCast v397
  let c256 : Index := 256#32
  ![v587.toNat, 256]
def k0_off17 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v592 : Index := Scalar.indexCast v393
  let c256_228 : Index := 256#32
  ![v592.toNat, 256]
def k0_off18 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v675 : Index := Scalar.indexCast v397
  let c384 : Index := 384#32
  ![v675.toNat, 384]
def k0_off19 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v680 : Index := Scalar.indexCast v393
  let c384_252 : Index := 384#32
  ![v680.toNat, 384]
def k0_off20 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v763 : Index := Scalar.indexCast v397
  let c512 : Index := 512#32
  ![v763.toNat, 512]
def k0_off21 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v768 : Index := Scalar.indexCast v393
  let c512_276 : Index := 512#32
  ![v768.toNat, 512]
def k0_off22 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v851 : Index := Scalar.indexCast v397
  let c640 : Index := 640#32
  ![v851.toNat, 640]
def k0_off23 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v856 : Index := Scalar.indexCast v393
  let c640_300 : Index := 640#32
  ![v856.toNat, 640]
def k0_off24 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v939 : Index := Scalar.indexCast v397
  let c768 : Index := 768#32
  ![v939.toNat, 768]
def k0_off25 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v944 : Index := Scalar.indexCast v393
  let c768_324 : Index := 768#32
  ![v944.toNat, 768]
def k0_off26 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1027 : Index := Scalar.indexCast v397
  let c896 : Index := 896#32
  ![v1027.toNat, 896]
def k0_off27 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1032 : Index := Scalar.indexCast v393
  let c896_348 : Index := 896#32
  ![v1032.toNat, 896]
def k0_off28 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1115 : Index := Scalar.indexCast v397
  let c1024 : Index := 1024#32
  ![v1115.toNat, 1024]
def k0_off29 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1120 : Index := Scalar.indexCast v393
  let c1024_372 : Index := 1024#32
  ![v1120.toNat, 1024]
def k0_off30 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1203 : Index := Scalar.indexCast v397
  let c1152 : Index := 1152#32
  ![v1203.toNat, 1152]
def k0_off31 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1208 : Index := Scalar.indexCast v393
  let c1152_396 : Index := 1152#32
  ![v1208.toNat, 1152]
def k0_off32 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1291 : Index := Scalar.indexCast v397
  let c1280 : Index := 1280#32
  ![v1291.toNat, 1280]
def k0_off33 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1296 : Index := Scalar.indexCast v393
  let c1280_420 : Index := 1280#32
  ![v1296.toNat, 1280]
def k0_off34 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1379 : Index := Scalar.indexCast v397
  let c1408 : Index := 1408#32
  ![v1379.toNat, 1408]
def k0_off35 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1384 : Index := Scalar.indexCast v393
  let c1408_444 : Index := 1408#32
  ![v1384.toNat, 1408]
def k0_off36 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1467 : Index := Scalar.indexCast v397
  let c1536 : Index := 1536#32
  ![v1467.toNat, 1536]
def k0_off37 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1472 : Index := Scalar.indexCast v393
  let c1536_468 : Index := 1536#32
  ![v1472.toNat, 1536]
def k0_off38 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1555 : Index := Scalar.indexCast v397
  let c1664 : Index := 1664#32
  ![v1555.toNat, 1664]
def k0_off39 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1560 : Index := Scalar.indexCast v393
  let c1664_492 : Index := 1664#32
  ![v1560.toNat, 1664]
def k0_off40 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1643 : Index := Scalar.indexCast v397
  let c1792 : Index := 1792#32
  ![v1643.toNat, 1792]
def k0_off41 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1648 : Index := Scalar.indexCast v393
  let c1792_516 : Index := 1792#32
  ![v1648.toNat, 1792]
def k0_off42 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1731 : Index := Scalar.indexCast v397
  let c1920 : Index := 1920#32
  ![v1731.toNat, 1920]
def k0_off43 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1736 : Index := Scalar.indexCast v393
  let c1920_540 : Index := 1920#32
  ![v1736.toNat, 1920]
def k0_off44 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1819 : Index := Scalar.indexCast v397
  let c2048 : Index := 2048#32
  ![v1819.toNat, 2048]
def k0_off45 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1824 : Index := Scalar.indexCast v393
  let c2048_564 : Index := 2048#32
  ![v1824.toNat, 2048]
def k0_off46 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1907 : Index := Scalar.indexCast v397
  let c2176 : Index := 2176#32
  ![v1907.toNat, 2176]
def k0_off47 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v1912 : Index := Scalar.indexCast v393
  let c2176_588 : Index := 2176#32
  ![v1912.toNat, 2176]
def k0_off48 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v1995 : Index := Scalar.indexCast v397
  let c2304 : Index := 2304#32
  ![v1995.toNat, 2304]
def k0_off49 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2000 : Index := Scalar.indexCast v393
  let c2304_612 : Index := 2304#32
  ![v2000.toNat, 2304]
def k0_off50 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2083 : Index := Scalar.indexCast v397
  let c2432 : Index := 2432#32
  ![v2083.toNat, 2432]
def k0_off51 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2088 : Index := Scalar.indexCast v393
  let c2432_636 : Index := 2432#32
  ![v2088.toNat, 2432]
def k0_off52 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2171 : Index := Scalar.indexCast v397
  let c2560 : Index := 2560#32
  ![v2171.toNat, 2560]
def k0_off53 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2176 : Index := Scalar.indexCast v393
  let c2560_660 : Index := 2560#32
  ![v2176.toNat, 2560]
def k0_off54 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2259 : Index := Scalar.indexCast v397
  let c2688 : Index := 2688#32
  ![v2259.toNat, 2688]
def k0_off55 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2264 : Index := Scalar.indexCast v393
  let c2688_684 : Index := 2688#32
  ![v2264.toNat, 2688]
def k0_off56 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2347 : Index := Scalar.indexCast v397
  let c2816 : Index := 2816#32
  ![v2347.toNat, 2816]
def k0_off57 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2352 : Index := Scalar.indexCast v393
  let c2816_708 : Index := 2816#32
  ![v2352.toNat, 2816]
def k0_off58 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2435 : Index := Scalar.indexCast v397
  let c2944 : Index := 2944#32
  ![v2435.toNat, 2944]
def k0_off59 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2440 : Index := Scalar.indexCast v393
  let c2944_732 : Index := 2944#32
  ![v2440.toNat, 2944]
def k0_off60 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2523 : Index := Scalar.indexCast v397
  let c3072 : Index := 3072#32
  ![v2523.toNat, 3072]
def k0_off61 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2528 : Index := Scalar.indexCast v393
  let c3072_756 : Index := 3072#32
  ![v2528.toNat, 3072]
def k0_off62 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2611 : Index := Scalar.indexCast v397
  let c3200 : Index := 3200#32
  ![v2611.toNat, 3200]
def k0_off63 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2616 : Index := Scalar.indexCast v393
  let c3200_780 : Index := 3200#32
  ![v2616.toNat, 3200]
def k0_off64 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2699 : Index := Scalar.indexCast v397
  let c3328 : Index := 3328#32
  ![v2699.toNat, 3328]
def k0_off65 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2704 : Index := Scalar.indexCast v393
  let c3328_804 : Index := 3328#32
  ![v2704.toNat, 3328]
def k0_off66 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2787 : Index := Scalar.indexCast v397
  let c3456 : Index := 3456#32
  ![v2787.toNat, 3456]
def k0_off67 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2792 : Index := Scalar.indexCast v393
  let c3456_828 : Index := 3456#32
  ![v2792.toNat, 3456]
def k0_off68 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2875 : Index := Scalar.indexCast v397
  let c3584 : Index := 3584#32
  ![v2875.toNat, 3584]
def k0_off69 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2880 : Index := Scalar.indexCast v393
  let c3584_852 : Index := 3584#32
  ![v2880.toNat, 3584]
def k0_off70 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v2963 : Index := Scalar.indexCast v397
  let c3712 : Index := 3712#32
  ![v2963.toNat, 3712]
def k0_off71 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v2968 : Index := Scalar.indexCast v393
  let c3712_876 : Index := 3712#32
  ![v2968.toNat, 3712]
def k0_off72 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3051 : Index := Scalar.indexCast v397
  let c3840 : Index := 3840#32
  ![v3051.toNat, 3840]
def k0_off73 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3056 : Index := Scalar.indexCast v393
  let c3840_900 : Index := 3840#32
  ![v3056.toNat, 3840]
def k0_off74 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3139 : Index := Scalar.indexCast v397
  let c3968 : Index := 3968#32
  ![v3139.toNat, 3968]
def k0_off75 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3144 : Index := Scalar.indexCast v393
  let c3968_924 : Index := 3968#32
  ![v3144.toNat, 3968]
def k0_off76 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3227 : Index := Scalar.indexCast v397
  let c4096 : Index := 4096#32
  ![v3227.toNat, 4096]
def k0_off77 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3232 : Index := Scalar.indexCast v393
  let c4096_947 : Index := 4096#32
  ![v3232.toNat, 4096]
def k0_off78 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3315 : Index := Scalar.indexCast v397
  let c4224 : Index := 4224#32
  ![v3315.toNat, 4224]
def k0_off79 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3320 : Index := Scalar.indexCast v393
  let c4224_971 : Index := 4224#32
  ![v3320.toNat, 4224]
def k0_off80 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3403 : Index := Scalar.indexCast v397
  let c4352 : Index := 4352#32
  ![v3403.toNat, 4352]
def k0_off81 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3408 : Index := Scalar.indexCast v393
  let c4352_994 : Index := 4352#32
  ![v3408.toNat, 4352]
def k0_off82 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3491 : Index := Scalar.indexCast v397
  let c4480 : Index := 4480#32
  ![v3491.toNat, 4480]
def k0_off83 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3496 : Index := Scalar.indexCast v393
  let c4480_1017 : Index := 4480#32
  ![v3496.toNat, 4480]
def k0_off84 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3579 : Index := Scalar.indexCast v397
  let c4608 : Index := 4608#32
  ![v3579.toNat, 4608]
def k0_off85 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3584 : Index := Scalar.indexCast v393
  let c4608_1040 : Index := 4608#32
  ![v3584.toNat, 4608]
def k0_off86 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3667 : Index := Scalar.indexCast v397
  let c4736 : Index := 4736#32
  ![v3667.toNat, 4736]
def k0_off87 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3672 : Index := Scalar.indexCast v393
  let c4736_1063 : Index := 4736#32
  ![v3672.toNat, 4736]
def k0_off88 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3755 : Index := Scalar.indexCast v397
  let c4864 : Index := 4864#32
  ![v3755.toNat, 4864]
def k0_off89 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3760 : Index := Scalar.indexCast v393
  let c4864_1086 : Index := 4864#32
  ![v3760.toNat, 4864]
def k0_off90 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3843 : Index := Scalar.indexCast v397
  let c4992 : Index := 4992#32
  ![v3843.toNat, 4992]
def k0_off91 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3848 : Index := Scalar.indexCast v393
  let c4992_1109 : Index := 4992#32
  ![v3848.toNat, 4992]
def k0_off92 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v3931 : Index := Scalar.indexCast v397
  let c5120 : Index := 5120#32
  ![v3931.toNat, 5120]
def k0_off93 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v3936 : Index := Scalar.indexCast v393
  let c5120_1132 : Index := 5120#32
  ![v3936.toNat, 5120]
def k0_off94 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4019 : Index := Scalar.indexCast v397
  let c5248 : Index := 5248#32
  ![v4019.toNat, 5248]
def k0_off95 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4024 : Index := Scalar.indexCast v393
  let c5248_1155 : Index := 5248#32
  ![v4024.toNat, 5248]
def k0_off96 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4107 : Index := Scalar.indexCast v397
  let c5376 : Index := 5376#32
  ![v4107.toNat, 5376]
def k0_off97 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4112 : Index := Scalar.indexCast v393
  let c5376_1178 : Index := 5376#32
  ![v4112.toNat, 5376]
def k0_off98 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4195 : Index := Scalar.indexCast v397
  let c5504 : Index := 5504#32
  ![v4195.toNat, 5504]
def k0_off99 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4200 : Index := Scalar.indexCast v393
  let c5504_1201 : Index := 5504#32
  ![v4200.toNat, 5504]
def k0_off100 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4283 : Index := Scalar.indexCast v397
  let c5632 : Index := 5632#32
  ![v4283.toNat, 5632]
def k0_off101 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4288 : Index := Scalar.indexCast v393
  let c5632_1224 : Index := 5632#32
  ![v4288.toNat, 5632]
def k0_off102 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4371 : Index := Scalar.indexCast v397
  let c5760 : Index := 5760#32
  ![v4371.toNat, 5760]
def k0_off103 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4376 : Index := Scalar.indexCast v393
  let c5760_1247 : Index := 5760#32
  ![v4376.toNat, 5760]
def k0_off104 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4459 : Index := Scalar.indexCast v397
  let c5888 : Index := 5888#32
  ![v4459.toNat, 5888]
def k0_off105 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4464 : Index := Scalar.indexCast v393
  let c5888_1270 : Index := 5888#32
  ![v4464.toNat, 5888]
def k0_off106 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4547 : Index := Scalar.indexCast v397
  let c6016 : Index := 6016#32
  ![v4547.toNat, 6016]
def k0_off107 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4552 : Index := Scalar.indexCast v393
  let c6016_1293 : Index := 6016#32
  ![v4552.toNat, 6016]
def k0_off108 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4635 : Index := Scalar.indexCast v397
  let c6144 : Index := 6144#32
  ![v4635.toNat, 6144]
def k0_off109 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4640 : Index := Scalar.indexCast v393
  let c6144_1316 : Index := 6144#32
  ![v4640.toNat, 6144]
def k0_off110 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4723 : Index := Scalar.indexCast v397
  let c6272 : Index := 6272#32
  ![v4723.toNat, 6272]
def k0_off111 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4728 : Index := Scalar.indexCast v393
  let c6272_1339 : Index := 6272#32
  ![v4728.toNat, 6272]
def k0_off112 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4811 : Index := Scalar.indexCast v397
  let c6400 : Index := 6400#32
  ![v4811.toNat, 6400]
def k0_off113 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4816 : Index := Scalar.indexCast v393
  let c6400_1362 : Index := 6400#32
  ![v4816.toNat, 6400]
def k0_off114 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4899 : Index := Scalar.indexCast v397
  let c6528 : Index := 6528#32
  ![v4899.toNat, 6528]
def k0_off115 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4904 : Index := Scalar.indexCast v393
  let c6528_1385 : Index := 6528#32
  ![v4904.toNat, 6528]
def k0_off116 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v4987 : Index := Scalar.indexCast v397
  let c6656 : Index := 6656#32
  ![v4987.toNat, 6656]
def k0_off117 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v4992 : Index := Scalar.indexCast v393
  let c6656_1408 : Index := 6656#32
  ![v4992.toNat, 6656]
def k0_off118 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5075 : Index := Scalar.indexCast v397
  let c6784 : Index := 6784#32
  ![v5075.toNat, 6784]
def k0_off119 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5080 : Index := Scalar.indexCast v393
  let c6784_1431 : Index := 6784#32
  ![v5080.toNat, 6784]
def k0_off120 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5163 : Index := Scalar.indexCast v397
  let c6912 : Index := 6912#32
  ![v5163.toNat, 6912]
def k0_off121 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5168 : Index := Scalar.indexCast v393
  let c6912_1454 : Index := 6912#32
  ![v5168.toNat, 6912]
def k0_off122 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5251 : Index := Scalar.indexCast v397
  let c7040 : Index := 7040#32
  ![v5251.toNat, 7040]
def k0_off123 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5256 : Index := Scalar.indexCast v393
  let c7040_1477 : Index := 7040#32
  ![v5256.toNat, 7040]
def k0_off124 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5339 : Index := Scalar.indexCast v397
  let c7168 : Index := 7168#32
  ![v5339.toNat, 7168]
def k0_off125 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5344 : Index := Scalar.indexCast v393
  let c7168_1500 : Index := 7168#32
  ![v5344.toNat, 7168]
def k0_off126 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5427 : Index := Scalar.indexCast v397
  let c7296 : Index := 7296#32
  ![v5427.toNat, 7296]
def k0_off127 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5432 : Index := Scalar.indexCast v393
  let c7296_1523 : Index := 7296#32
  ![v5432.toNat, 7296]
def k0_off128 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5515 : Index := Scalar.indexCast v397
  let c7424 : Index := 7424#32
  ![v5515.toNat, 7424]
def k0_off129 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5520 : Index := Scalar.indexCast v393
  let c7424_1546 : Index := 7424#32
  ![v5520.toNat, 7424]
def k0_off130 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5603 : Index := Scalar.indexCast v397
  let c7552 : Index := 7552#32
  ![v5603.toNat, 7552]
def k0_off131 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5608 : Index := Scalar.indexCast v393
  let c7552_1569 : Index := 7552#32
  ![v5608.toNat, 7552]
def k0_off132 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5691 : Index := Scalar.indexCast v397
  let c7680 : Index := 7680#32
  ![v5691.toNat, 7680]
def k0_off133 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5696 : Index := Scalar.indexCast v393
  let c7680_1592 : Index := 7680#32
  ![v5696.toNat, 7680]
def k0_off134 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5779 : Index := Scalar.indexCast v397
  let c7808 : Index := 7808#32
  ![v5779.toNat, 7808]
def k0_off135 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5784 : Index := Scalar.indexCast v393
  let c7808_1615 : Index := 7808#32
  ![v5784.toNat, 7808]
def k0_off136 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5867 : Index := Scalar.indexCast v397
  let c7936 : Index := 7936#32
  ![v5867.toNat, 7936]
def k0_off137 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5872 : Index := Scalar.indexCast v393
  let c7936_1638 : Index := 7936#32
  ![v5872.toNat, 7936]
def k0_off138 (i : grid0.Coords) (k0_t3 : Fin k0_t3_loop.trips) : Fin 2 → Nat :=
  let arg0 : BitVec 32 := BitVec.ofNat 32 (i 0).val
  let c64_i32 : BitVec 32 := 64#32
  let v394 : BitVec 32 := Scalar.muli arg0 c64_i32
  let c0_i32_167 : BitVec 32 := 0#32
  let c1_i32_169 : BitVec 32 := 1#32
  let arg17 : BitVec 32 := Scf.iv c0_i32_167 c1_i32_169 k0_t3
  let c32_i32_171 : BitVec 32 := 32#32
  let v395 : BitVec 32 := Scalar.muli arg17 c32_i32_171
  let v396 : BitVec 32 := Scalar.addi v394 v395
  let v397 : BitVec 32 := v396
  let v5955 : Index := Scalar.indexCast v397
  let c8064 : Index := 8064#32
  ![v5955.toNat, 8064]
def k0_off139 (k0_t3 : Fin k0_t3_loop.trips) : Fin 2 → Nat :=
  let c0_i32_167 : BitVec 32 := 0#32
  let c1_i32_169 : BitVec 32 := 1#32
  let arg17 : BitVec 32 := Scf.iv c0_i32_167 c1_i32_169 k0_t3
  let c32_i32 : BitVec 32 := 32#32
  let v392 : BitVec 32 := Scalar.muli arg17 c32_i32
  let v393 : BitVec 32 := v392
  let v5960 : Index := Scalar.indexCast v393
  let c8064_1661 : Index := 8064#32
  ![v5960.toNat, 8064]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x8192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x8192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x8192 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "hundredth" => some ((1 / 100 : ℝ) : EReal)
  | "tenth" => some ((1 / 10 : ℝ) : EReal)
  | _ => none
-- ==== ReferenceIdeal.lean ====
abbrev S2816x8192 : Shape := ⟨2, ![2816, 8192]⟩
abbrev S2816x64 : Shape := ⟨2, ![2816, 64]⟩
abbrev S_ : Shape := ⟨0, ![]⟩
abbrev S1x1 : Shape := ⟨2, ![1, 1]⟩
abbrev S1x2816x8192 : Shape := ⟨3, ![1, 2816, 8192]⟩
abbrev S1 : Shape := ⟨1, ![1]⟩
abbrev S1x1x1 : Shape := ⟨3, ![1, 1, 1]⟩
abbrev S2816x64x128 : Shape := ⟨3, ![2816, 64, 128]⟩
abbrev S2816x64x1 : Shape := ⟨3, ![2816, 64, 1]⟩

abbrev nBuf : Space → Nat
  | .hbm => 15
  | .vmem => 13
  | .smem => 0
  | _ => 0

abbrev bufTy : (tb : Table) → Fin (tcTables nBuf tb) → BufTy
  | .hbm, ⟨0, _⟩ => ⟨S2816x8192, .f32⟩
  | .hbm, ⟨1, _⟩ => ⟨S2816x8192, .bf16⟩
  | .hbm, ⟨2, _⟩ => ⟨S2816x8192, .i8⟩
  | .hbm, ⟨3, _⟩ => ⟨S2816x64, .f32⟩
  | .hbm, ⟨4, _⟩ => ⟨S2816x8192, .i8⟩
  | .hbm, ⟨5, _⟩ => ⟨S2816x64, .f32⟩
  | .hbm, ⟨6, _⟩ => ⟨S_, .i32⟩
  | .hbm, ⟨7, _⟩ => ⟨S_, .f32⟩
  | .hbm, ⟨8, _⟩ => ⟨S1x1, .i32⟩
  | .hbm, ⟨9, _⟩ => ⟨S1x1, .f32⟩
  | .hbm, ⟨10, _⟩ => ⟨S2816x8192, .f32⟩
  | .hbm, ⟨11, _⟩ => ⟨S2816x8192, .i8⟩
  | .hbm, ⟨12, _⟩ => ⟨S2816x64, .f32⟩
  | .hbm, ⟨13, _⟩ => ⟨S2816x8192, .i8⟩
  | .hbm, ⟨14, _⟩ => ⟨S2816x64, .f32⟩
  | .local _ .vmem, ⟨0, _⟩ => ⟨S2816x8192, .f32⟩
  | .local _ .vmem, ⟨1, _⟩ => ⟨S2816x8192, .bf16⟩
  | .local _ .vmem, ⟨2, _⟩ => ⟨S2816x8192, .i8⟩
  | .local _ .vmem, ⟨3, _⟩ => ⟨S2816x64, .f32⟩
  | .local _ .vmem, ⟨4, _⟩ => ⟨S2816x8192, .i8⟩
  | .local _ .vmem, ⟨5, _⟩ => ⟨S2816x64, .f32⟩
  | .local _ .vmem, ⟨6, _⟩ => ⟨S1x1, .i32⟩
  | .local _ .vmem, ⟨7, _⟩ => ⟨S1x1, .f32⟩
  | .local _ .vmem, ⟨8, _⟩ => ⟨S2816x8192, .f32⟩
  | .local _ .vmem, ⟨9, _⟩ => ⟨S2816x8192, .i8⟩
  | .local _ .vmem, ⟨10, _⟩ => ⟨S2816x64, .f32⟩
  | .local _ .vmem, ⟨11, _⟩ => ⟨S2816x8192, .i8⟩
  | .local _ .vmem, ⟨12, _⟩ => ⟨S2816x64, .f32⟩
  | _, _ => ⟨S2816x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "tenth" => some ((1 / 10 : ℝ) : EReal)
  | "thousandth" => some ((1 / 1000 : ℝ) : EReal)
  | _ => none

abbrev grid0 : Pipeline.Grid := .none

abbrev stage0_0 : Fin 1 → Memref sig .tc .vmem S2816x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2816x8192 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2816x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2816x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2816x8192 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2816x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2816x8192 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2816x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Starts.lean ====
/- The first grid step starts forty-four transfers, each moving sixty-four rows of the gradient into the resident copy.
   Here: the row windows, the family of their states, and what one start does to that family. -/
module

public import proofs.«01_k».proof.Proof.Gen.Kernel.Skeleton
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-! ## The windows -/

theorem rows_inb (j : Fin 44) : ∀ a, (![64 * j.val, 0] : Fin 2 → Nat) a + S64x8192.size a ≤ S2816x8192.size a := by
  intro a
  have hj := j.isLt
  match a with
  | 0 => show 64 * j.val + 64 ≤ 2816; omega
  | 1 => show 0 + 8192 ≤ 8192; omega

theorem cell_inb (j : Fin 44) : ∀ a, (![j.val] : Fin 1 → Nat) a + S1.size a ≤ S44.size a := by
  intro a
  have hj := j.isLt
  match a with
  | 0 => show j.val + 1 ≤ 44; omega

/-- Rows `64 j … 64 j + 63`. -/
abbrev rows (j : Fin 44) : Rect S2816x8192 := Rect.unit (s := S2816x8192) ![64 * j.val, 0] S64x8192.size (rows_inb j)

/-- Transfer `j`'s semaphore. -/
abbrev cell (arg16 : DmaSems sig S44) (j : Fin 44) : DmaSem sig :=
  ((arg16.slice (Rect.unit (s := S44) ![j.val] S1.size (cell_inb j))).squeeze S_ squeezes_S1_S_).sem

theorem mem_rows (j : Fin 44) (x : S2816x8192.Idx) : x ∈ (rows j).set ↔ (x 0).val / 64 = j.val := by
  rw [Rect.mem_set_unit]
  have h1 : (x 1).val < 8192 := (x 1).isLt
  constructor
  · intro h
    have h0 := h 0
    have hl : 64 * j.val ≤ (x 0).val := h0.1
    have hr : (x 0).val < 64 * j.val + 64 := h0.2
    omega
  · intro h a
    match a with
    | 0 => show 64 * j.val ≤ (x 0).val ∧ (x 0).val < 64 * j.val + 64; omega
    | 1 => show 0 ≤ (x 1).val ∧ (x 1).val < 0 + 8192; omega

theorem rows_disjoint (j j' : Fin 44) (h : j ≠ j') : Disjoint (rows j).set (rows j').set := by
  rw [Finset.disjoint_left]
  intro x hx hx'
  rw [mem_rows] at hx hx'
  exact h (Fin.ext (hx.symm.trans hx'))

theorem rows_cover : (Finset.univ : Finset (Fin 44)).biUnion (fun j => (rows j).set) = Finset.univ := by
  ext x
  simp only [Finset.mem_biUnion, Finset.mem_univ, true_and, iff_true]
  have h0 : (x 0).val < 2816 := (x 0).isLt
  exact ⟨⟨(x 0).val / 64, by omega⟩, (mem_rows _ _).mpr rfl⟩

section

variable (c : Dev nD) (arg3 : Memref sig .tc .hbm S2816x8192 .bf16) (arg14 : Memref sig .tc .vmem S2816x8192 .bf16) (harg14 : arg14.IsWhole) (arg16 : DmaSems sig S44)
variable (f3 : BufTy.Contents (Elt F) arg3.view.ty) (f14 : BufTy.Contents (Elt F) arg14.view.ty)

/-- A whole buffer held is its windows held. -/
theorem pts_rows {sp : Space} (m : Memref sig .tc sp S2816x8192 .bf16) (f : BufTy.Contents (Elt F) m.view.ty) :
    (m.view.loc (c : Thread nD τ) ↦[m.view.set]{fullShare} f : sProp 𝕄G)
      = bigSep (Finset.univ : Finset (Fin 44)) fun j => m.view.loc (c : Thread nD τ) ↦[m.view.setOn (rows j).set]{fullShare} f := by
  have h : m.view.set = (Finset.univ : Finset (Fin 44)).biUnion fun j => m.view.setOn (rows j).set := by
    ext i
    simp only [View.set, View.setOn, Finset.mem_map, Finset.mem_biUnion, Finset.mem_univ, true_and]
    constructor
    · rintro ⟨x, rfl⟩
      have hx : x ∈ (Finset.univ : Finset (Fin 44)).biUnion (fun j => (rows j).set) := by rw [rows_cover]; exact Finset.mem_univ x
      obtain ⟨j, -, hj⟩ := Finset.mem_biUnion.mp hx
      exact ⟨j, x, hj, rfl⟩
    · rintro ⟨j, x, -, rfl⟩; exact ⟨x, rfl⟩
  rw [h]
  refine pointsTo_biUnion _ _ fun j _ j' _ hne => ?_
  show Disjoint (Finset.map _ _) (Finset.map _ _)
  rw [Finset.disjoint_map]
  exact rows_disjoint j j' hne

/-- The resident copy's contents once every transfer has landed. -/
abbrev landed : BufTy.Contents (Elt F) arg14.view.ty := harg14.unread (arg3.view.read (Elt F) f3)

/-- Window `j` before its transfer starts. -/
abbrev idle (j : Fin 44) : sProp 𝕄G :=
  iprop((arg3.view.loc (c : Thread nD τ) ↦[arg3.view.setOn (rows j).set]{fullShare} f3)
    ∗ (arg14.view.loc (c : Thread nD τ) ↦[arg14.view.setOn (rows j).set]{fullShare} f14) ∗ semVal ((c : Thread nD τ), SemLoc.dma (cell arg16 j)) 0)

/-- The units a window's transfer counts. -/
abbrev units : ℕ := sig.dmaCredit .tc (Kind.tc.table .vmem) arg14.view.buf S64x8192 .bf16

theorem units_pos : 0 < units arg14 := View.dmaCredit_pos (arg14.slice (rows 0) (fun _ => rfl)).view (by decide)

/-- Window `j` between its start and its wait: what the wait will deliver. -/
abbrev flying (j : Fin 44) : sProp 𝕄G :=
  Transfers.Flight countersEmb (c : Thread nD τ) (SemLoc.dma (cell arg16 j)) () (units arg14)
    iprop((arg14.view.loc (c : Thread nD τ) ↦[arg14.view.setOn (rows j).set]{fullShare} landed arg3 arg14 harg14 f3)
      ∗ (arg3.view.loc (c : Thread nD τ) ↦[arg3.view.setOn (rows j).set]{fullShare} f3))

/-- All windows when the first `n` transfers have started. -/
abbrev started (n : ℕ) : sProp 𝕄G :=
  bigSep (Finset.univ : Finset (Fin 44)) fun j =>
    if j.val < n then flying c arg3 arg14 harg14 arg16 f3 j else idle c arg3 arg14 arg16 f3 f14 j

/-- All windows when the first `n` transfers have been waited for. -/
abbrev waited (n : ℕ) : sProp 𝕄G :=
  bigSep (Finset.univ : Finset (Fin 44)) fun j =>
    if j.val < n then idle c arg3 arg14 arg16 f3 (landed arg3 arg14 harg14 f3) j else flying c arg3 arg14 harg14 arg16 f3 j

/-- A family told by a threshold: member `n` apart, and the family at the next threshold from its new state. -/
theorem family_step (A B : Fin 44 → sProp 𝕄G) (j : Fin 44) :
    (bigSep (Finset.univ : Finset (Fin 44)) fun i => if i.val < j.val then A i else B i)
      ⊢ iprop(B j ∗ (A j -∗ bigSep (Finset.univ : Finset (Fin 44)) fun i => if i.val < j.val + 1 then A i else B i)) := by
  have ht : (bigSep (Finset.univ : Finset (Fin 44)) fun i => if i.val < j.val then A i else B i)
      = iprop(B j ∗ bigSep (Finset.univ.erase j) fun i : Fin 44 => if i.val < j.val then A i else B i) :=
    (bigSep_erase (Finset.mem_univ j)).trans (by rw [if_neg (lt_irrefl _)]; rfl)
  have hp : (bigSep (Finset.univ : Finset (Fin 44)) fun i => if i.val < j.val + 1 then A i else B i)
      = iprop(A j ∗ bigSep (Finset.univ.erase j) fun i : Fin 44 => if i.val < j.val + 1 then A i else B i) :=
    (bigSep_erase (Finset.mem_univ j)).trans (by rw [if_pos (Nat.lt_succ_self _)]; rfl)
  have hc : (bigSep (Finset.univ.erase j) fun i : Fin 44 => if i.val < j.val then A i else B i)
      = bigSep (Finset.univ.erase j) fun i : Fin 44 => if i.val < j.val + 1 then A i else B i := by
    refine bigSep_congr fun i hi => ?_
    have hne : i.val ≠ j.val := fun e => (Finset.mem_erase.mp hi).1 (Fin.ext e)
    by_cases h : i.val < j.val
    · rw [if_pos h, if_pos (Nat.lt_succ_of_lt h)]
    · rw [if_neg h, if_neg (by omega)]
  rw [ht, hp, hc]
  iintro ⟨HB, HR⟩
  isplitl [HB]; · iexact HB
  iintro HA
  isplitl [HA]; · iexact HA
  iexact HR

/-- What a landed window holds is the gradient's rows, whatever it held before. -/
theorem landed_window (j : Fin 44) :
    (arg14.view.loc (c : Thread nD τ) ↦[(arg14.slice (rows j) (fun _ => rfl)).view.set]{fullShare}
        ((arg14.slice (rows j) (fun _ => rfl)).view.write (Elt F) f14 (ReadAs.same.apply ((arg3.slice (rows j) (fun _ => rfl)).view.read (Elt F) f3)) Finset.univ) : sProp 𝕄G)
      = (arg14.view.loc (c : Thread nD τ) ↦[(arg14.slice (rows j) (fun _ => rfl)).view.set]{fullShare} landed arg3 arg14 harg14 f3) := by
  refine pointsTo_congr fun i hi => ?_
  obtain ⟨x, -, rfl⟩ := Finset.mem_map.mp hi
  rw [View.write_emb_of_mem _ _ (Finset.mem_univ _)]
  have h := congrFun (harg14.read_unread (arg3.view.read (Elt F) f3)) ((rows j).emb x)
  rw [View.read_apply] at h
  have h2 : ReadAs.same.apply ((arg3.slice (rows j) (fun _ => rfl)).view.read (Elt F) f3) x = arg3.view.read (Elt F) f3 ((rows j).emb x) := rfl
  rw [h2, ← h, cast_cast, cast_eq]
  rfl

/-- One start, window and semaphore spelled as the program spells them. -/
theorem wp_start (j : Fin 44) {off : Fin 2 → ℕ} (hoff : off = ![64 * j.val, 0]) {soff : Fin 1 → ℕ} (hsoff : soff = ![j.val])
    (h1 : ∀ a, off a + S64x8192.size a ≤ S2816x8192.size a) (h2 : ∀ a, soff a + S1.size a ≤ S44.size a)
    {hsrc : (arg3.slice (Rect.unit (s := S2816x8192) off S64x8192.size h1) (fun _ => rfl)).view.WordExact}
    {hdst : (arg14.slice (Rect.unit (s := S2816x8192) off S64x8192.size h1) (fun _ => rfl)).view.WordExact}
    {hsem : DmaTarget.Typed (nD := nD) (τ := τ) (p := .tc) Space.hbm (SemLoc.dma ((arg16.slice (Rect.unit (s := S44) soff S1.size h2)).squeeze S_ squeezes_S1_S_).sem) (.here (arg14.slice (Rect.unit (s := S2816x8192) off S64x8192.size h1) (fun _ => rfl)))}
    {Q : PUnit → sProp 𝕄G} :
    started c arg3 arg14 harg14 arg16 f3 f14 j.val
      ⊢ iprop((started c arg3 arg14 harg14 arg16 f3 f14 (j.val + 1) -∗ Q ⟨⟩)
        -∗ wp frame (wpE (defs₀ (F := F)) Variants.none (c : Thread nD τ) none) Set.univ
          (Prog.lift (.enqueueDma (arg3.slice (Rect.unit (s := S2816x8192) off S64x8192.size h1) (fun _ => rfl))
            (.here (arg14.slice (Rect.unit (s := S2816x8192) off S64x8192.size h1) (fun _ => rfl)))
            (.dma ((arg16.slice (Rect.unit (s := S44) soff S1.size h2)).squeeze S_ squeezes_S1_S_).sem) hsrc hdst hsem)) Q) := by
  subst hoff hsoff
  iintro HP Hk
  ihave HP2 := (family_step (flying c arg3 arg14 harg14 arg16 f3) (idle c arg3 arg14 arg16 f3 f14) j) $$ HP
  icases HP2 with ⟨⟨Hs, Hd, Hv⟩, Hback⟩
  iapply (Transfers.wp_dmaLocal countersEmb Variants.none (c : Thread nD τ) none
    (src := arg3.slice (rows j) (fun _ => rfl)) (dst := arg14.slice (rows j) (fun _ => rfl)) (q := fullShare) (fs := f3) (fd := f14)
    (Sd := (arg14.slice (rows j) (fun _ => rfl)).view.set) () (units arg14) rfl (units_pos arg14) subset_rfl) $$ [Hs Hd Hv]
  · rw [View.set_slice, View.set_slice]
    isplitl [Hs]; · iexact Hs
    isplitl [Hd]; · iexact Hd
    iexact Hv
  iintro HF
  rw [landed_window c arg3 arg14 harg14 f3 f14 j]
  sl_step
  iapply Hk
  iapply Hback
  rw [View.set_slice, View.set_slice]
  iexact HF

/-- The next start of a run of starts: which one it is, is read off the family held. -/
theorem wp_next {n : ℕ} {off : Fin 2 → ℕ} {soff : Fin 1 → ℕ}
    {h1 : ∀ a, off a + S64x8192.size a ≤ S2816x8192.size a} {h2 : ∀ a, soff a + S1.size a ≤ S44.size a}
    {hsrc : (arg3.slice (Rect.unit (s := S2816x8192) off S64x8192.size h1) (fun _ => rfl)).view.WordExact}
    {hdst : (arg14.slice (Rect.unit (s := S2816x8192) off S64x8192.size h1) (fun _ => rfl)).view.WordExact}
    {hsem : DmaTarget.Typed (nD := nD) (τ := τ) (p := .tc) Space.hbm (SemLoc.dma ((arg16.slice (Rect.unit (s := S44) soff S1.size h2)).squeeze S_ squeezes_S1_S_).sem) (.here (arg14.slice (Rect.unit (s := S2816x8192) off S64x8192.size h1) (fun _ => rfl)))}
    {Q : PUnit → sProp 𝕄G} :
    iprop(started c arg3 arg14 harg14 arg16 f3 f14 n ∗ ⌜n < 44 ∧ off = ![64 * n, 0] ∧ soff = ![n]⌝)
      ⊢ iprop((started c arg3 arg14 harg14 arg16 f3 f14 (n + 1) -∗ Q ⟨⟩)
        -∗ wp frame (wpE (defs₀ (F := F)) Variants.none (c : Thread nD τ) none) Set.univ
          (Prog.lift (.enqueueDma (arg3.slice (Rect.unit (s := S2816x8192) off S64x8192.size h1) (fun _ => rfl))
            (.here (arg14.slice (Rect.unit (s := S2816x8192) off S64x8192.size h1) (fun _ => rfl)))
            (.dma ((arg16.slice (Rect.unit (s := S44) soff S1.size h2)).squeeze S_ squeezes_S1_S_).sem) hsrc hdst hsem)) Q) := by
  iintro ⟨HP, %h⟩
  obtain ⟨hn, ho, hs⟩ := h
  iapply (wp_start c arg3 arg14 harg14 arg16 f3 f14 ⟨n, hn⟩ ho hs h1 h2) $$ HP

end

end Cert.Kernel.Own

end
-- ==== Proof.Kernel.Rows.lean ====
/- The row loop over one landed window of the gradient: one trip reads sixteen rows inside the window and adds their squares. -/
module

public import proofs.«01_k».proof.Proof.Gen.Kernel.Skeleton
public import proofs.«01_k».proof.Proof.Gen.Kernel.Loops
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

abbrev Trip_k0_t2 (c : Dev nD) (arg14 : Memref sig .tc .vmem S2816x8192 .bf16) (S : Finset (Idx (arg14.view.loc (c : Thread nD τ)))) (X_arg14 : BufTy.Contents (Elt F) arg14.view.ty) : sProp 𝕄G :=
  iprop((arg14.view.loc (c : Thread nD τ) ↦[S]{fullShare} X_arg14))

@[irreducible] def trip_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (k : Fin k0_t2_loop.trips) :
    { R_k0_t2 : ((FVec F S8x1024 .f32) → FVec F S8x1024 .f32) // ∀ (E : Set ℕ) (acc : FVec F S8x1024 .f32),
      Trip_k0_t2 (F := F) c arg14 (arg14.view.setOn (Rect.unit (s := S2816x8192) (k0_off2 k0_t1) S64x8192.size (k0_off2_inb i k0_t1 k0_h1)).set) X_arg14
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 k acc)
          (fun yld => iprop(⌜yld = R_k0_t2 acc⌝ ∗ Trip_k0_t2 (F := F) c arg14 (arg14.view.setOn (Rect.unit (s := S2816x8192) (k0_off2 k0_t1) S64x8192.size (k0_off2_inb i k0_t1 k0_h1)).set) X_arg14)) } := by
  have hk : k.val < 4 := Nat.lt_of_lt_of_le k.isLt k0_t2_abs.2.1
  refine ⟨?_, fun E acc => ?run⟩
  case run =>
    unfold k0_t2_body
    iintro HR_arg14
    sl_exec
    sl_step
    sl_close

abbrev tripR_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (k : Fin k0_t2_loop.trips) (acc : FVec F S8x1024 .f32) : FVec F S8x1024 .f32 :=
  (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k).1 acc

@[irreducible] def st_k0_t2Step (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : ℕ) (prev : FVec F S8x1024 .f32) : FVec F S8x1024 .f32 :=
  if h : k < k0_t2_loop.trips then
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 ⟨k, h⟩ prev
  else prev

def st_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) : ℕ → FVec F S8x1024 .f32
  | 0 => init
  | k + 1 => st_k0_t2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k)

theorem st_k0_t2_succ (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : Fin k0_t2_loop.trips) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init (k.val + 1)
      = (tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k.val)) := by
  rw [st_k0_t2.eq_2]; unfold st_k0_t2Step; exact dif_pos k.isLt

theorem st_k0_t2_zero (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init 0) = init := rfl

abbrev inv_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : ℕ) (acc : FVec F S8x1024 .f32) : sProp 𝕄G :=
  iprop((arg14.view.loc (c : Thread nD τ) ↦[(arg14.view.setOn (Rect.unit (s := S2816x8192) (k0_off2 k0_t1) S64x8192.size (k0_off2_inb i k0_t1 k0_h1)).set)]{fullShare} X_arg14) ∗ ⌜acc = (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k)⌝)

set_option warn.classDefReducibility false in
def loopInv_k0_t2 (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 init where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init
  step k acc := by
    iintro ⟨HR_arg14, %h_acc⟩
    subst h_acc
    iapply (wp_wand_r Idealize.ShloMosaic.frame (wpE (defs₀ (F := F)) 𝒱 (c : Thread nD τ) bd) E)
    isplitl [HR_arg14]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k).2 E (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k))
      iexact HR_arg14
    · iintro %yld ⟨%h_res, HR_arg14⟩
      isplitl [HR_arg14]; · iexact HR_arg14
      simp only [st_k0_t2_succ]
      ipureintro; rw [h_res]

end Cert.Kernel.Own

end
-- ==== Proof.Kernel.Step0.lean ====
/- The first grid step up to its last wait: the forty-four starts in a row, and the loop that waits for them one by one
   and sums the squares of what landed. -/
module

public import proofs.«01_k».proof.Proof.Kernel.Starts
public import proofs.«01_k».proof.Proof.Kernel.Rows
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (f3 : BufTy.Contents (Elt F) arg3.view.ty) (f14 : BufTy.Contents (Elt F) arg14.view.ty)

/-- One wait: the window delivered, to be read and put back. -/
theorem wp_landed (j : Fin 44) {off : Fin 2 → ℕ} (hoff : off = ![64 * j.val, 0]) {soff : Fin 1 → ℕ} (hsoff : soff = ![j.val])
    (h1 : ∀ a, off a + S64x8192.size a ≤ S2816x8192.size a) (h2 : ∀ a, soff a + S1.size a ≤ S44.size a)
    {hsrc : (arg3.slice (Rect.unit (s := S2816x8192) off S64x8192.size h1) (fun _ => rfl)).view.WordExact}
    {hdst : (arg14.slice (Rect.unit (s := S2816x8192) off S64x8192.size h1) (fun _ => rfl)).view.WordExact}
    {W : Waits sig Unit} {Q : PUnit → sProp 𝕄G} :
    iprop(flying c arg3 arg14 harg14 arg16 f3 j ∗ owes (c : Thread nD τ) 0 W)
      ⊢ iprop((((arg14.view.loc (c : Thread nD τ) ↦[arg14.view.setOn (Rect.unit (s := S2816x8192) off S64x8192.size h1).set]{fullShare} landed arg3 arg14 harg14 f3)
            ∗ ((arg14.view.loc (c : Thread nD τ) ↦[arg14.view.setOn (Rect.unit (s := S2816x8192) off S64x8192.size h1).set]{fullShare} landed arg3 arg14 harg14 f3)
              -∗ idle c arg3 arg14 arg16 f3 (landed arg3 arg14 harg14 f3) j)
            ∗ (∃ W', owes (c : Thread nD τ) 0 W')) -∗ Q ⟨⟩)
        -∗ wp frame (wpE (defs₀ (F := F)) Variants.none (c : Thread nD τ) none) Set.univ
          (Prog.lift (.waitDma2 ((arg16.slice (Rect.unit (s := S44) soff S1.size h2)).squeeze S_ squeezes_S1_S_).sem
            (arg3.slice (Rect.unit (s := S2816x8192) off S64x8192.size h1) (fun _ => rfl))
            (arg14.slice (Rect.unit (s := S2816x8192) off S64x8192.size h1) (fun _ => rfl)) hsrc hdst)) Q) := by
  subst hoff hsoff
  iintro ⟨HF, HO⟩ Hk
  iapply (Transfers.wp_waitLocal countersEmb Variants.none (c : Thread nD τ) none (srcw := arg3.slice (rows j) (fun _ => rfl))
    (dstw := arg14.slice (rows j) (fun _ => rfl)) () (N := units arg14) rfl) $$ [HF HO]
  · isplitl [HF]; · iexact HF
    iexact HO
  iintro ⟨⟨Hd, Hs⟩, Hv, HO⟩
  sl_step
  iapply Hk
  isplitl [Hd]; · iexact Hd
  isplitl [Hs Hv]
  · iintro Hd
    isplitl [Hs]; · iexact Hs
    isplitl [Hd]; · iexact Hd
    iexact Hv
  iexists _; iexact HO

variable (k0_h1 : k0_cond1 i = 1#1) (v568 : Elt F .f32)

/-- The squares summed over the windows before the `n`th. -/
def squares : ℕ → FVec F S8x1024 .f32
  | 0 => k0_pay8 (F := F)
  | n + 1 => if h : n < k0_t1_loop.trips then
      st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 ⟨n, h⟩ (Scf.iv 0#32 1#32 n) (landed arg3 arg14 harg14 f3) (squares n) k0_t2_loop.trips
    else squares n

/-- The waiting loop's invariant. -/
abbrev inv_waits (n : ℕ) (acc : FVec F S8x1024 .f32) : sProp 𝕄G :=
  iprop(waited c arg3 arg14 harg14 arg16 f3 n ∗ (∃ W, owes (c : Thread nD τ) 0 W) ∗ ⌜acc = squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 n⌝)

theorem waits_step (k : Fin k0_t1_loop.trips) (acc : FVec F S8x1024 .f32) :
    inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 k.val acc
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k acc)
        (inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 (k.val + 1)) := by
  have hk : k.val < 44 := Nat.lt_of_lt_of_le k.isLt k0_t1_abs.2.1
  unfold k0_t1_body
  iintro ⟨HP, ⟨%W, HO⟩, %hacc⟩
  subst hacc
  ihave HP2 := (family_step (idle c arg3 arg14 arg16 f3 (landed arg3 arg14 harg14 f3)) (flying c arg3 arg14 harg14 arg16 f3) ⟨k.val, hk⟩) $$ HP
  icases HP2 with ⟨HF, Hback⟩
  simp only [wp_bind]
  iapply (wp_landed c arg3 arg14 harg14 arg16 f3 ⟨k.val, hk⟩ (k0_off2_eq k) (k0_off1_eq k) _ _) $$ [HF HO]
  · isplitl [HF]; · iexact HF
    iexact HO
  iintro ⟨Hd, Hidle, HO⟩
  iapply (Scf.wp_for frame (wpE (defs₀ (F := F)) Variants.none (c : Thread nD τ) none) Set.univ k0_t2_loop.lb k0_t2_loop.ub k0_t2_loop.st
    (k0_t2_ok i k0_h1) _ _ (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k (Scf.iv 0#32 1#32 k) (landed arg3 arg14 harg14 f3) _)
    (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k (Scf.iv 0#32 1#32 k) (landed arg3 arg14 harg14 f3) _).step)
  isplitl [Hd]
  · isplitl [Hd]; · iexact Hd
    ipureintro; rfl
  iintro %acc ⟨Hd, %hacc⟩
  sl_step
  isplitl [Hback Hidle Hd]
  · iapply Hback
    iapply Hidle
    iexact Hd
  isplitl [HO]; · iexact HO
  ipureintro
  rw [hacc, squares, dif_pos k.isLt]

/-- The scalar a one-word SMEM buffer holds. -/
abbrev word {e : EltTy} (a : Memref sig .tc .smem S1 e) (X : BufTy.Contents (Elt F) a.view.ty) : Elt F e :=
  a.view.readAt (Elt F) (Rect.unit (s := S1) ![0] S1.size inb_S1_S1_0).toLoadRect X (Shape.Idx.first (numel1_S1.symm ▸ Nat.one_pos))

/-- With every transfer started and none waited for, the two families are the same. -/
theorem started_all : (started c arg3 arg14 harg14 arg16 f3 f14 44 : sProp 𝕄G) ⊢ waited c arg3 arg14 harg14 arg16 f3 0 :=
  le_of_eq (bigSep_congr fun j _ => by rw [if_pos j.isLt, if_neg (Nat.not_lt_zero _)])

/-- Six starts in a row, as one part of the program has them. -/
theorem starts3 {Q : PUnit → sProp 𝕄G} :
    started c arg3 arg14 harg14 arg16 f3 f14 0
      ⊢ iprop((started c arg3 arg14 harg14 arg16 f3 f14 6 -∗ Q ⟨⟩)
        -∗ wp frame (wpE (defs₀ (F := F)) Variants.none (c : Thread nD τ) none) Set.univ (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part3_eq_skeleton]
  unfold k0_part3_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts4 {Q : PUnit → sProp 𝕄G} :
    started c arg3 arg14 harg14 arg16 f3 f14 6
      ⊢ iprop((started c arg3 arg14 harg14 arg16 f3 f14 12 -∗ Q ⟨⟩)
        -∗ wp frame (wpE (defs₀ (F := F)) Variants.none (c : Thread nD τ) none) Set.univ (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part4_eq_skeleton]
  unfold k0_part4_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts5 {Q : PUnit → sProp 𝕄G} :
    started c arg3 arg14 harg14 arg16 f3 f14 12
      ⊢ iprop((started c arg3 arg14 harg14 arg16 f3 f14 18 -∗ Q ⟨⟩)
        -∗ wp frame (wpE (defs₀ (F := F)) Variants.none (c : Thread nD τ) none) Set.univ (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part5_eq_skeleton]
  unfold k0_part5_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts6 {Q : PUnit → sProp 𝕄G} :
    started c arg3 arg14 harg14 arg16 f3 f14 18
      ⊢ iprop((started c arg3 arg14 harg14 arg16 f3 f14 24 -∗ Q ⟨⟩)
        -∗ wp frame (wpE (defs₀ (F := F)) Variants.none (c : Thread nD τ) none) Set.univ (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part6_eq_skeleton]
  unfold k0_part6_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts7 {Q : PUnit → sProp 𝕄G} :
    started c arg3 arg14 harg14 arg16 f3 f14 24
      ⊢ iprop((started c arg3 arg14 harg14 arg16 f3 f14 30 -∗ Q ⟨⟩)
        -∗ wp frame (wpE (defs₀ (F := F)) Variants.none (c : Thread nD τ) none) Set.univ (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part7_eq_skeleton]
  unfold k0_part7_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts8 {Q : PUnit → sProp 𝕄G} :
    started c arg3 arg14 harg14 arg16 f3 f14 30
      ⊢ iprop((started c arg3 arg14 harg14 arg16 f3 f14 36 -∗ Q ⟨⟩)
        -∗ wp frame (wpE (defs₀ (F := F)) Variants.none (c : Thread nD τ) none) Set.univ (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part8_eq_skeleton]
  unfold k0_part8_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts9 {Q : PUnit → sProp 𝕄G} :
    started c arg3 arg14 harg14 arg16 f3 f14 36
      ⊢ iprop((started c arg3 arg14 harg14 arg16 f3 f14 42 -∗ Q ⟨⟩)
        -∗ wp frame (wpE (defs₀ (F := F)) Variants.none (c : Thread nD τ) none) Set.univ (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part9_eq_skeleton]
  unfold k0_part9_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- The first step's transfers and sums, whole: every window landed, and the scalar word read with the squares' sum. -/
theorem part10_spec (W : Waits sig Unit) (X2 : BufTy.Contents (Elt F) arg2.view.ty) (X15 : BufTy.Contents (Elt F) arg15.view.ty)
    {Q : (Σ' (v586 : FVec F S8x128 .f32), Vec F S8x128 .f32) → sProp 𝕄G} :
    iprop(started c arg3 arg14 harg14 arg16 f3 f14 0 ∗ owes (c : Thread nD τ) 0 W
        ∗ (arg2.view.loc (c : Thread nD τ) ↦[arg2.view.set]{fullShare} X2) ∗ (arg15.view.loc (c : Thread nD τ) ↦[arg15.view.set]{fullShare} X15))
      ⊢ iprop((∀ v, (waited c arg3 arg14 harg14 arg16 f3 44 ∗ (∃ W', owes (c : Thread nD τ) 0 W')
          ∗ (arg2.view.loc (c : Thread nD τ) ↦[arg2.view.set]{fullShare} X2) ∗ (arg15.view.loc (c : Thread nD τ) ↦[arg15.view.set]{fullShare} X15))
            -∗ Q ⟨k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 (word arg2 X2) 44), v⟩)
        -∗ wp frame (wpE (defs₀ (F := F)) Variants.none (c : Thread nD τ) none) Set.univ (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1) Q) := by
  simp only [k0_part10_eq_skeleton]
  unfold k0_part10_skel
  iintro ⟨HP, HO, H2, H15⟩ Hk
  simp only [wp_bind]
  iapply (starts3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iterate 2
    try simp only [wp_bind]
    iapply (wp_next c arg3 arg14 harg14 arg16 f3 f14) $$ [HP]
    · isplitl [HP]
      · iexact HP
      · ipureintro; exact ⟨by decide, rfl, rfl⟩
    iintro HP
  unfold smemLoad smemLoadElt
  sl_step
  sl_step
  iapply (Scf.wp_for frame (wpE (defs₀ (F := F)) Variants.none (c : Thread nD τ) none) Set.univ k0_t1_loop.lb k0_t1_loop.ub k0_t1_loop.st
    (k0_t1_ok i k0_h1) _ _ (inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 _) (waits_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 _))
  isplitl [HP HO]
  · ihave HP := (started_all c arg3 arg14 harg14 arg16 f3 f14) $$ HP
    isplitl [HP]; · iexact HP
    isplitl [HO]; · iexists _; iexact HO
    ipureintro; rfl
  iintro %acc ⟨HP, HO, %hacc⟩
  have ht : Scf.trips k0_t1_loop.lb k0_t1_loop.ub k0_t1_loop.st = 44 := by decide
  rw [ht] at hacc
  subst hacc
  rw [ht]
  sl_exec
  sl_step
  iapply Hk
  isplitl [HP]; · iexact HP
  isplitl [HO]; · iexact HO
  isplitl [H2]; · iexact H2
  iexact H15

end Cert.Kernel.Own

end
-- ==== Proof.Kernel.Branch.lean ====
/- The start of every grid step: the first step's branch, which fetches the gradient and leaves the clip coefficient, and
   the two bias corrections. -/
module

public import proofs.«01_k».proof.Proof.Kernel.Step0
public import Idealize.ShloMosaic.Lib.VecWindow
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-! ## The scalars of a step -/

/-- The first moment's bias correction, by squaring and multiplying along the step count's bits. -/
def corr1 (v3 : Elt F .i32) : FVec F S1x1 .f32 :=
  let v71 := k0_pay816 (F := F) k0_pay810
  let v76 := k0_pay817 (F := F) v3 (k0_pay809 v3) k0_pay810 (Scalar.shrsi v3 5#32)
  let v113 := k0_pay825 (F := F) v71
  let v112 := k0_pay824 (F := F) v3 v71 v76
  k0_pay834 (F := F) v3 (k0_pay832 v3 v112 v113 (Scalar.andi (Scalar.shrsi v3 18#32) 1#32) 1#32) (k0_pay833 v113) (Scalar.shrsi v3 25#32)

/-- The step size over the second moment's root, with the two bias corrections. -/
def rootGain (v3 : Elt F .i32) : FVec F S1x1 .f32 :=
  let v230 := k0_pay842 (F := F) k0_pay836
  let v235 := k0_pay843 (F := F) v3 k0_pay835 k0_pay836 (Scalar.shrsi v3 0#32)
  let v271 := k0_pay850 (F := F) v3 v230 v235
  let v272 := k0_pay851 (F := F) v230
  let v313 := k0_pay858 (F := F) v3 v271 v272 (Scalar.andi (Scalar.shrsi v3 13#32) 1#32) 1#32
  let v314 := k0_pay859 (F := F) v272
  k0_pay868 (F := F) v3 (corr1 v3) (k0_pay865 v314) (k0_pay866 v3 v313 v314 (Scalar.shrsi v3 20#32))

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)

section

variable (f3 : BufTy.Contents (Elt F) arg3.view.ty) (f14 : BufTy.Contents (Elt F) arg14.view.ty)

/-- The transfers' semaphores, all at zero. -/
abbrev cells : sProp 𝕄G := bigSep (Finset.univ : Finset (Fin 44)) fun j => semVal ((c : Thread nD τ), SemLoc.dma (cell arg16 j)) 0

/-- Both buffers whole and the semaphores at zero are the windows idle, -/
theorem all_idle :
    iprop((arg3.view.loc (c : Thread nD τ) ↦[arg3.view.set]{fullShare} f3) ∗ (arg14.view.loc (c : Thread nD τ) ↦[arg14.view.set]{fullShare} f14) ∗ cells (F := F) c arg16)
      = (bigSep (Finset.univ : Finset (Fin 44)) fun j => idle c arg3 arg14 arg16 f3 f14 j : sProp 𝕄G) := by
  rw [pts_rows, pts_rows]
  refine Eq.symm ?_
  refine (bigSep_sep _ _ _).trans ?_
  exact congrArg _ (bigSep_sep _ _ _)

/-- before the first start -/
theorem to_started : iprop((arg3.view.loc (c : Thread nD τ) ↦[arg3.view.set]{fullShare} f3) ∗ (arg14.view.loc (c : Thread nD τ) ↦[arg14.view.set]{fullShare} f14) ∗ cells (F := F) c arg16)
    ⊢ (started c arg3 arg14 harg14 arg16 f3 f14 0 : sProp 𝕄G) :=
  le_of_eq ((all_idle c arg3 arg14 arg16 f3 f14).trans (bigSep_congr fun j _ => by rw [if_neg (Nat.not_lt_zero _)]))

/-- and after the last wait. -/
theorem of_waited : (waited c arg3 arg14 harg14 arg16 f3 44 : sProp 𝕄G)
    ⊢ iprop((arg3.view.loc (c : Thread nD τ) ↦[arg3.view.set]{fullShare} f3) ∗ (arg14.view.loc (c : Thread nD τ) ↦[arg14.view.set]{fullShare} landed arg3 arg14 harg14 f3) ∗ cells (F := F) c arg16) :=
  le_of_eq ((bigSep_congr fun j _ => by rw [if_pos j.isLt]).trans (all_idle c arg3 arg14 arg16 f3 (landed arg3 arg14 harg14 f3)).symm)

end

/-! ## The first part of every step -/

variable (X1 : BufTy.Contents (Elt F) arg1.view.ty) (X2 : BufTy.Contents (Elt F) arg2.view.ty) (f3 : BufTy.Contents (Elt F) arg3.view.ty)
  (X14 : BufTy.Contents (Elt F) arg14.view.ty) (X15 : BufTy.Contents (Elt F) arg15.view.ty)

/-- What a step's first part works on. -/
abbrev Front (f14 : BufTy.Contents (Elt F) arg14.view.ty) (f15 : BufTy.Contents (Elt F) arg15.view.ty) : sProp 𝕄G :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} f3) ∗ (arg14.view.loc (c : Thread nD τ) ↦[arg14.view.set]{fullShare} f14)
    ∗ (arg15.view.loc (c : Thread nD τ) ↦[arg15.view.set]{fullShare} f15) ∗ cells (F := F) c arg16 ∗ (∃ W, owes (c : Thread nD τ) 0 W))

/-- What a step's first part hands on. -/
abbrev frontOut (v3 : Elt F .i32) : (Σ' (arg0 : BitVec 32) (v3 : Elt F .i32) (v34 : FVec F S1x1 .f32) (v35 : FVec F S1x1 .f32), BitVec 32) :=
  ⟨BitVec.ofNat 32 (i 0).val, v3, k0_pay809 v3, k0_pay810 (F := F), Scalar.shrsi v3 5#32⟩

/-- A step that is not the first does nothing there. -/
theorem front_later (hc : ¬k0_cond1 i = 1#1) {Q : (Σ' (arg0 : BitVec 32) (v3 : Elt F .i32) (v34 : FVec F S1x1 .f32) (v35 : FVec F S1x1 .f32), BitVec 32) → sProp 𝕄G} :
    Front c arg1 arg2 arg3 arg14 arg15 arg16 X1 X2 f3 X14 X15
      ⊢ iprop((Front c arg1 arg2 arg3 arg14 arg15 arg16 X1 X2 f3 X14 X15 -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part137_eq_skeleton]
  unfold k0_part137_skel
  iintro ⟨H1, H2, H3, H14, H15, HS, HO⟩ Hk
  rw [dif_neg hc]
  simp only [wp_bind]
  unfold smemLoad smemLoadElt
  sl_step
  sl_step
  sl_step
  iapply Hk
  isplitl [H1]; · iexact H1
  isplitl [H2]; · iexact H2
  isplitl [H3]; · iexact H3
  isplitl [H14]; · iexact H14
  isplitl [H15]; · iexact H15
  isplitl [HS]; · iexact HS
  iexact HO

/-- The clip coefficient the first step leaves, in every lane. -/
def coefVec (k0_h1 : k0_cond1 i = 1#1) : FVec F S8x128 .f32 :=
  k0_pay803 (k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 (word arg2 X2) 44))

omit [FloatOps F] in
/-- A store of the whole coefficient buffer leaves the vector stored. -/
theorem stored_whole (w : Vec F S8x128 .f32) :
    (((arg15.access (Rect.unit (s := S8x128) ![0, 0] S8x128.size inb_S8x128_S8x128_0_0)).loc (c : Thread nD τ) ↦[arg15.view.set]{fullShare}
        (arg15.access (Rect.unit (s := S8x128) ![0, 0] S8x128.size inb_S8x128_S8x128_0_0)).write (Elt F) X15 w Finset.univ : sProp 𝕄G))
      ⊢ (arg15.view.loc (c : Thread nD τ) ↦[arg15.view.set]{fullShare} harg15.unread w) :=
  le_of_eq (congrArg (fun f => (arg15.view.loc (c : Thread nD τ) ↦[arg15.view.set]{fullShare} f : sProp 𝕄G))
    (harg15.eq_unread (View.read_writes_full arg15.view X15 inb_S8x128_S8x128_0_0 w [])))

/-- The first step fetches the gradient and leaves the coefficient. -/
theorem front_first (hc : k0_cond1 i = 1#1) {Q : (Σ' (arg0 : BitVec 32) (v3 : Elt F .i32) (v34 : FVec F S1x1 .f32) (v35 : FVec F S1x1 .f32), BitVec 32) → sProp 𝕄G} :
    Front c arg1 arg2 arg3 arg14 arg15 arg16 X1 X2 f3 X14 X15
      ⊢ iprop((Front c arg1 arg2 arg3 arg14 arg15 arg16 X1 X2 f3 (landed arg3 arg14 harg14 f3)
            (harg15.unread (coefVec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X2 f3 hc)) -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part137_eq_skeleton]
  unfold k0_part137_skel
  rw [dif_pos hc]
  unfold coefVec
  iintro ⟨H1, H2, H3, H14, H15, HS, ⟨%W, HO⟩⟩ Hk
  ihave HP := (to_started c arg3 arg14 harg14 arg16 f3 X14) $$ [H3 H14 HS]
  · isplitl [H3]; · iexact H3
    isplitl [H14]; · iexact H14
    iexact HS
  simp only [wp_bind]
  iapply (part10_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 X14 hc W X2 X15) $$ [HP HO H2 H15]
  · isplitl [HP]; · iexact HP
    isplitl [HO]; · iexact HO
    isplitl [H2]; · iexact H2
    iexact H15
  iintro %v ⟨HP, HO, H2, H15⟩
  ihave HP := (of_waited c arg3 arg14 harg14 arg16 f3) $$ HP
  icases HP with ⟨H3, H14, HS⟩
  unfold Prog.lift
  sl_step
  sl_step
  unfold smemLoad smemLoadElt
  sl_step
  sl_step
  sl_step
  ihave H15 := (stored_whole c arg15 harg15 X15 (k0_pay803 (k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 hc (word arg2 X2) 44)))) $$ H15
  iapply Hk
  isplitl [H1]; · iexact H1
  isplitl [H2]; · iexact H2
  isplitl [H3]; · iexact H3
  isplitl [H14]; · iexact H14
  isplitl [H15]; · iexact H15
  isplitl [HS]; · iexact HS
  iexact HO

end Cert.Kernel.Own

end
-- ==== Proof.Kernel.Chunks.lean ====
/- The chunk loop of one grid step and its invariant: what one trip writes into the five outputs, and the pieces of the trips before it. -/
module

public import proofs.«01_k».proof.Proof.Gen.Kernel.Skeleton
public import proofs.«01_k».proof.Proof.Gen.Kernel.Loops
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

abbrev Trip_k0_t3 (c : Dev nD) (arg4 : Memref sig .tc .vmem S64x8192 .f32) (arg5 : Memref sig .tc .vmem S64x8192 .i8) (arg6 : Memref sig .tc .vmem S64x64 .f32) (arg7 : Memref sig .tc .vmem S64x8192 .i8) (arg8 : Memref sig .tc .vmem S64x64 .f32) (arg14 : Memref sig .tc .vmem S2816x8192 .bf16) (arg9 : Memref sig .tc .vmem S64x8192 .f32) (arg10 : Memref sig .tc .vmem S64x8192 .i8) (arg11 : Memref sig .tc .vmem S64x64 .f32) (arg12 : Memref sig .tc .vmem S64x8192 .i8) (arg13 : Memref sig .tc .vmem S64x64 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

@[irreducible] def trip_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) :
    Σ' (L_arg9 : List (View.Piece (Elt F) S64x8192 .f32)) (L_arg10 : List (View.Piece (Elt F) S64x8192 .i8)) (L_arg11 : List (View.Piece (Elt F) S64x64 .f32)) (L_arg12 : List (View.Piece (Elt F) S64x8192 .i8)) , { L_arg13 : List (View.Piece (Elt F) S64x64 .f32) // ∀ (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      Trip_k0_t3 (F := F) c arg4 arg5 arg6 arg7 arg8 arg14 arg9 arg10 arg11 arg12 arg13 X_arg4 X_arg5 X_arg6 X_arg7 X_arg8 X_arg14 f_arg9 f_arg10 f_arg11 f_arg12 f_arg13
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 k PUnit.unit)
          (fun _ => Trip_k0_t3 (F := F) c arg4 arg5 arg6 arg7 arg8 arg14 arg9 arg10 arg11 arg12 arg13 X_arg4 X_arg5 X_arg6 X_arg7 X_arg8 X_arg14 (arg9.view.writes (Elt F) f_arg9 L_arg9) (arg10.view.writes (Elt F) f_arg10 L_arg10) (arg11.view.writes (Elt F) f_arg11 L_arg11) (arg12.view.writes (Elt F) f_arg12 L_arg12) (arg13.view.writes (Elt F) f_arg13 L_arg13)) } := by
  have hk : k.val < 2 := Nat.lt_of_lt_of_le k.isLt k0_t3_abs.2.1
  refine ⟨?_, ?_, ?_, ?_, ?_, fun E f_arg9 f_arg10 f_arg11 f_arg12 f_arg13 => ?run⟩
  case run =>
    unfold k0_t3_body
    iintro ⟨HR_arg4, HR_arg5, HR_arg6, HR_arg7, HR_arg8, HR_arg14, HW_arg9, HW_arg10, HW_arg11, HW_arg12, HW_arg13⟩
    sl_exec
    sl_step
    sl_close

abbrev tripL_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) : List (View.Piece (Elt F) S64x8192 .f32) × List (View.Piece (Elt F) S64x8192 .i8) × List (View.Piece (Elt F) S64x64 .f32) × List (View.Piece (Elt F) S64x8192 .i8) × List (View.Piece (Elt F) S64x64 .f32) :=
  ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.1)

@[irreducible] def pb_k0_t3Step (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : ℕ) (prev : List (View.Piece (Elt F) S64x8192 .f32) × List (View.Piece (Elt F) S64x8192 .i8) × List (View.Piece (Elt F) S64x64 .f32) × List (View.Piece (Elt F) S64x8192 .i8) × List (View.Piece (Elt F) S64x64 .f32)) : List (View.Piece (Elt F) S64x8192 .f32) × List (View.Piece (Elt F) S64x8192 .i8) × List (View.Piece (Elt F) S64x64 .f32) × List (View.Piece (Elt F) S64x8192 .i8) × List (View.Piece (Elt F) S64x64 .f32) :=
  if h : k < k0_t3_loop.trips then
    ((tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).1 ++ prev.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.1 ++ prev.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.1 ++ prev.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.2.1 ++ prev.2.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.2.2 ++ prev.2.2.2.2)
  else prev

def pb_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) : ℕ → List (View.Piece (Elt F) S64x8192 .f32) × List (View.Piece (Elt F) S64x8192 .i8) × List (View.Piece (Elt F) S64x64 .f32) × List (View.Piece (Elt F) S64x8192 .i8) × List (View.Piece (Elt F) S64x64 .f32)
  | 0 => ([], [], [], [], [])
  | k + 1 => pb_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k)

theorem pb_k0_t3_succ (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) :
    pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 (k.val + 1)
      = ((tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.2.2) := by
  rw [pb_k0_t3.eq_2]; unfold pb_k0_t3Step; exact dif_pos k.isLt

abbrev inv_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (∃ f, (arg9.view.loc (c : Thread nD τ) ↦[arg9.view.set]{fullShare} f) ∗ ⌜f = arg9.view.writes (Elt F) G_arg9 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1⌝) ∗ (∃ f, (arg10.view.loc (c : Thread nD τ) ↦[arg10.view.set]{fullShare} f) ∗ ⌜f = arg10.view.writes (Elt F) G_arg10 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1⌝) ∗ (∃ f, (arg11.view.loc (c : Thread nD τ) ↦[arg11.view.set]{fullShare} f) ∗ ⌜f = arg11.view.writes (Elt F) G_arg11 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1⌝) ∗ (∃ f, (arg12.view.loc (c : Thread nD τ) ↦[arg12.view.set]{fullShare} f) ∗ ⌜f = arg12.view.writes (Elt F) G_arg12 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1⌝) ∗ (∃ f, (arg13.view.loc (c : Thread nD τ) ↦[arg13.view.set]{fullShare} f) ∗ ⌜f = arg13.view.writes (Elt F) G_arg13 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2⌝))

set_option warn.classDefReducibility false in
@[sl_loop] def loopInv_k0_t3 (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 G_arg9 G_arg10 G_arg11 G_arg12 G_arg13
  step k acc := by
    iintro ⟨HR_arg4, HR_arg5, HR_arg6, HR_arg7, HR_arg8, HR_arg14, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg4 HR_arg5 HR_arg6 HR_arg7 HR_arg8 HR_arg14 HW_arg9 HW_arg10 HW_arg11 HW_arg12 HW_arg13]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.2 E f_arg9 f_arg10 f_arg11 f_arg12 f_arg13)
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg14]; · iexact HR_arg14
      isplitl [HW_arg9]; · iexact HW_arg9
      isplitl [HW_arg10]; · iexact HW_arg10
      isplitl [HW_arg11]; · iexact HW_arg11
      isplitl [HW_arg12]; · iexact HW_arg12
      iexact HW_arg13
    · iintro %_ ⟨HR_arg4, HR_arg5, HR_arg6, HR_arg7, HR_arg8, HR_arg14, HW_arg9, HW_arg10, HW_arg11, HW_arg12, HW_arg13⟩
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg14]; · iexact HR_arg14
      rw [pb_k0_t3_succ]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      iexists _; isplitl [HW_arg13]; · iexact HW_arg13
      ipureintro; rw [h_arg13, ← View.writes_append]

end Cert.Kernel.Own

end
-- ==== Proof.Kernel.Body.lean ====
/- A whole grid step: its first part, the bias corrections, and the two chunks of rows. -/
module

public import proofs.«01_k».proof.Proof.Kernel.Branch
public import proofs.«01_k».proof.Proof.Kernel.Chunks
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (X1 : BufTy.Contents (Elt F) arg1.view.ty) (X2 : BufTy.Contents (Elt F) arg2.view.ty) (f3 : BufTy.Contents (Elt F) arg3.view.ty)
  (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
  (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
  (X14 g14 : BufTy.Contents (Elt F) arg14.view.ty) (X15 g15 : BufTy.Contents (Elt F) arg15.view.ty)

/-- The coefficient a step reads out of its scratch. -/
abbrev coefWord (g15 : BufTy.Contents (Elt F) arg15.view.ty) : Vec F S1x1 .f32 :=
  arg15.view.readAt (Elt F) (Rect.unit (s := S8x128) ![0, 0] S1x1.size inb_S8x128_S1x1_0_0).toLoadRect g15

/-- What a step's two chunks store into the five results' buffers. -/
abbrev pieces : List (View.Piece (Elt F) S64x8192 .f32) × List (View.Piece (Elt F) S64x8192 .i8) × List (View.Piece (Elt F) S64x64 .f32) × List (View.Piece (Elt F) S64x8192 .i8) × List (View.Piece (Elt F) S64x64 .f32) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (BitVec.ofNat 32 (i 0).val) (corr1 (word arg1 X1)) (k0_pay867 (coefWord arg15 g15)) (rootGain (word arg1 X1)) (Scalar.ofBits .f32 0x3727C5AC#32) X4 X5 X6 X7 X8 g14 2

set_option maxRecDepth 16384 in
/-- A whole step, given what its first part does. -/
theorem step_run
    (hfront : ∀ Q : (Σ' (arg0 : BitVec 32) (v3 : Elt F .i32) (v34 : FVec F S1x1 .f32) (v35 : FVec F S1x1 .f32), BitVec 32) → sProp 𝕄G,
      Front c arg1 arg2 arg3 arg14 arg15 arg16 X1 X2 f3 X14 X15
      ⊢ iprop((Front c arg1 arg2 arg3 arg14 arg15 arg16 X1 X2 f3 g14 g15 -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q))
    {K : PUnit → sProp 𝕄G} :
    iprop(Front c arg1 arg2 arg3 arg14 arg15 arg16 X1 X2 f3 X14 X15 ∗ ((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ iprop(((Front c arg1 arg2 arg3 arg14 arg15 arg16 X1 X2 f3 g14 g15 ∗ ((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) ∗ (arg9.view.loc (c : Thread nD τ) ↦[arg9.view.set]{fullShare} arg9.view.writes (Elt F) f9 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).1) ∗ (arg10.view.loc (c : Thread nD τ) ↦[arg10.view.set]{fullShare} arg10.view.writes (Elt F) f10 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.1) ∗ (arg11.view.loc (c : Thread nD τ) ↦[arg11.view.set]{fullShare} arg11.view.writes (Elt F) f11 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.1) ∗ (arg12.view.loc (c : Thread nD τ) ↦[arg12.view.set]{fullShare} arg12.view.writes (Elt F) f12 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.2.1) ∗ (arg13.view.loc (c : Thread nD τ) ↦[arg13.view.set]{fullShare} arg13.view.writes (Elt F) f13 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.2.2)) -∗ K ⟨⟩)
        -∗ wp frame (wpE (defs₀ (F := F)) Variants.none (c : Thread nD τ) none) Set.univ (cc0_adamw_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K) := by
  simp only [cc0_adamw_int8_eq_skeleton]
  unfold cc0_adamw_int8_skel
  rw [wp_bind, k0_part146_eq_skeleton]
  unfold k0_part146_skel
  rw [wp_bind]
  iintro ⟨HF, ⟨H4, H5, H6, H7, H8⟩, H9, H10, H11, H12, H13⟩ Hk
  iapply (hfront _) $$ HF
  iintro ⟨H1, H2, H3, H14, H15, HS, HO⟩
  simp only [k0_part138_eq_skeleton, k0_part139_eq_skeleton, k0_part140_eq_skeleton, k0_part141_eq_skeleton, k0_part142_eq_skeleton, k0_part143_eq_skeleton, k0_part144_eq_skeleton, k0_part145_eq_skeleton]
  unfold k0_part138_skel k0_part139_skel k0_part140_skel k0_part141_skel k0_part142_skel k0_part143_skel k0_part144_skel k0_part145_skel
  simp only [wp_bind]
  iterate 8 sl_step
  unfold Prog.lift
  sl_step
  sl_step
  sl_step
  unfold pieces rootGain corr1
  dsimp only
  iapply (Scf.wp_for frame (wpE (defs₀ (F := F)) Variants.none (c : Thread nD τ) none) Set.univ k0_t3_loop.lb k0_t3_loop.ub k0_t3_loop.st
    k0_t3_ok _ _ (inv_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _ _ _ _ _ X4 X5 X6 X7 X8 g14 f9 f10 f11 f12 f13)
    (loopInv_k0_t3 (F := F) Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _ _ _ _ _ X4 X5 X6 X7 X8 g14 f9 f10 f11 f12 f13).step)
  isplitl [H4 H5 H6 H7 H8 H14 H9 H10 H11 H12 H13]
  · isplitl [H4]; · iexact H4
    isplitl [H5]; · iexact H5
    isplitl [H6]; · iexact H6
    isplitl [H7]; · iexact H7
    isplitl [H8]; · iexact H8
    isplitl [H14]; · iexact H14
    isplitl [H9]; · iexists _; isplitl [H9]; · iexact H9
                    ipureintro; rfl
    isplitl [H10]; · iexists _; isplitl [H10]; · iexact H10
                     ipureintro; rfl
    isplitl [H11]; · iexists _; isplitl [H11]; · iexact H11
                     ipureintro; rfl
    isplitl [H12]; · iexists _; isplitl [H12]; · iexact H12
                     ipureintro; rfl
    iexists _; isplitl [H13]; · iexact H13
    ipureintro; rfl
  have ht : Scf.trips k0_t3_loop.lb k0_t3_loop.ub k0_t3_loop.st = 2 := by decide
  rw [ht]
  iintro %u ⟨H4, H5, H6, H7, H8, H14, ⟨%h9, H9, %e9⟩, ⟨%h10, H10, %e10⟩, ⟨%h11, H11, %e11⟩, ⟨%h12, H12, %e12⟩, ⟨%h13, H13, %e13⟩⟩
  subst e9 e10 e11 e12 e13
  sl_step
  iapply Hk
  isplitl [H1 H2 H3 H14 H15 HS HO]
  · isplitl [H1]; · iexact H1
    isplitl [H2]; · iexact H2
    isplitl [H3]; · iexact H3
    isplitl [H14]; · iexact H14
    isplitl [H15]; · iexact H15
    isplitl [HS]; · iexact HS
    iexact HO
  isplitl [H4 H5 H6 H7 H8]
  · isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  iexact H13

end Cert.Kernel.Own

end
-- ==== Proof.Kernel.Owned.lean ====
/- A whole step with its windows owned at their blocks. -/
module

public import proofs.«01_k».proof.Proof.Kernel.Body

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (x1 : Vec F S1 .i32) (x2 : Vec F S1 .f32) (x4 : Vec F S64x8192 .f32) (x5 : Vec F S64x8192 .i8) (x6 : Vec F S64x64 .f32) (x7 : Vec F S64x8192 .i8) (x8 : Vec F S64x64 .f32)
variable (f3 : BufTy.Contents (Elt F) arg3.view.ty) (X14 g14 : BufTy.Contents (Elt F) arg14.view.ty) (X15 g15 : BufTy.Contents (Elt F) arg15.view.ty)

/-- What a step's two chunks store, from what the input windows hold. -/
abbrev stored : List (View.Piece (Elt F) S64x8192 .f32) × List (View.Piece (Elt F) S64x8192 .i8) × List (View.Piece (Elt F) S64x64 .f32) × List (View.Piece (Elt F) S64x8192 .i8) × List (View.Piece (Elt F) S64x64 .f32) :=
  pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (harg1.unread (Val := Elt F) x1) (harg4.unread (Val := Elt F) x4) (harg5.unread (Val := Elt F) x5) (harg6.unread (Val := Elt F) x6) (harg7.unread (Val := Elt F) x7) (harg8.unread (Val := Elt F) x8) g14 g15

/-- A whole step, its windows owned at their blocks. -/
theorem step_owned
    (hfront : ∀ Q : (Σ' (arg0 : BitVec 32) (v3 : Elt F .i32) (v34 : FVec F S1x1 .f32) (v35 : FVec F S1x1 .f32), BitVec 32) → sProp 𝕄G,
      Front c arg1 arg2 arg3 arg14 arg15 arg16 (harg1.unread (Val := Elt F) x1) (harg2.unread (Val := Elt F) x2) f3 X14 X15
      ⊢ iprop((Front c arg1 arg2 arg3 arg14 arg15 arg16 (harg1.unread (Val := Elt F) x1) (harg2.unread (Val := Elt F) x2) f3 g14 g15 -∗ Q (frontOut i (word arg1 (harg1.unread (Val := Elt F) x1))))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q))
    {K : PUnit → sProp 𝕄G} :
    iprop((owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ ((arg3.view.loc (c : Thread nD τ) ↦[arg3.view.set]{fullShare} f3) ∗ (arg14.view.loc (c : Thread nD τ) ↦[arg14.view.set]{fullShare} X14) ∗ (arg15.view.loc (c : Thread nD τ) ↦[arg15.view.set]{fullShare} X15) ∗ cells (F := F) c arg16 ∗ (∃ W, owes (c : Thread nD τ) 0 W))
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
      ⊢ iprop((((owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ ((arg3.view.loc (c : Thread nD τ) ↦[arg3.view.set]{fullShare} f3) ∗ (arg14.view.loc (c : Thread nD τ) ↦[arg14.view.set]{fullShare} g14) ∗ (arg15.view.loc (c : Thread nD τ) ↦[arg15.view.set]{fullShare} g15) ∗ cells (F := F) c arg16 ∗ (∃ W, owes (c : Thread nD τ) 0 W))
        ∗ (∃ f, arg9.view.loc (c : Thread nD τ) ↦[arg9.view.set]{fullShare} arg9.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).1) ∗ (∃ f, arg10.view.loc (c : Thread nD τ) ↦[arg10.view.set]{fullShare} arg10.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.1) ∗ (∃ f, arg11.view.loc (c : Thread nD τ) ↦[arg11.view.set]{fullShare} arg11.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.1) ∗ (∃ f, arg12.view.loc (c : Thread nD τ) ↦[arg12.view.set]{fullShare} arg12.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.2.1) ∗ (∃ f, arg13.view.loc (c : Thread nD τ) ↦[arg13.view.set]{fullShare} arg13.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.2.2)) -∗ K ⟨⟩)
        -∗ wp frame (wpE (defs₀ (F := F)) Variants.none (c : Thread nD τ) none) Set.univ (cc0_adamw_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K) := by
  unfold owns
  iintro ⟨⟨⟨%e1, %h1, H1⟩, ⟨%e2, %h2, H2⟩, ⟨%e4, %h4, H4⟩, ⟨%e5, %h5, H5⟩, ⟨%e6, %h6, H6⟩, ⟨%e7, %h7, H7⟩, ⟨%e8, %h8, H8⟩⟩, ⟨H3, H14, H15, HS, HO⟩, ⟨%d9, %f9, -, H9⟩, ⟨%d10, %f10, -, H10⟩, ⟨%d11, %f11, -, H11⟩, ⟨%d12, %f12, -, H12⟩, ⟨%d13, %f13, -, H13⟩⟩ Hk
  obtain rfl := harg1.eq_unread h1
  obtain rfl := harg2.eq_unread h2
  obtain rfl := harg4.eq_unread h4
  obtain rfl := harg5.eq_unread h5
  obtain rfl := harg6.eq_unread h6
  obtain rfl := harg7.eq_unread h7
  obtain rfl := harg8.eq_unread h8
  iapply (step_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (harg1.unread (Val := Elt F) x1) (harg2.unread (Val := Elt F) x2) f3 (harg4.unread (Val := Elt F) x4) (harg5.unread (Val := Elt F) x5) (harg6.unread (Val := Elt F) x6) (harg7.unread (Val := Elt F) x7) (harg8.unread (Val := Elt F) x8) f9 f10 f11 f12 f13 X14 g14 X15 g15 hfront) $$ [H1 H2 H3 H14 H15 HS HO H4 H5 H6 H7 H8 H9 H10 H11 H12 H13]
  · isplitl [H1 H2 H3 H14 H15 HS HO]
    · isplitl [H1]; · iexact H1
      isplitl [H2]; · iexact H2
      isplitl [H3]; · iexact H3
      isplitl [H14]; · iexact H14
      isplitl [H15]; · iexact H15
      isplitl [HS]; · iexact HS
      iexact HO
    isplitl [H4 H5 H6 H7 H8]
    · isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    iexact H13
  iintro ⟨⟨H1, H2, H3, H14, H15, HS, HO⟩, ⟨H4, H5, H6, H7, H8⟩, H9, H10, H11, H12, H13⟩
  iapply Hk
  isplitl [H1 H2 H4 H5 H6 H7 H8]
  · isplitl [H1]; · iexists _; isplitr; swap; iexact H1; ipureintro; exact harg1.read_unread _
    isplitl [H2]; · iexists _; isplitr; swap; iexact H2; ipureintro; exact harg2.read_unread _
    isplitl [H4]; · iexists _; isplitr; swap; iexact H4; ipureintro; exact harg4.read_unread _
    isplitl [H5]; · iexists _; isplitr; swap; iexact H5; ipureintro; exact harg5.read_unread _
    isplitl [H6]; · iexists _; isplitr; swap; iexact H6; ipureintro; exact harg6.read_unread _
    isplitl [H7]; · iexists _; isplitr; swap; iexact H7; ipureintro; exact harg7.read_unread _
    iexists _; isplitr; swap; iexact H8; ipureintro; exact harg8.read_unread _
  isplitl [H3 H14 H15 HS HO]
  · isplitl [H3]; · iexact H3
    isplitl [H14]; · iexact H14
    isplitl [H15]; · iexact H15
    isplitl [HS]; · iexact HS
    iexact HO
  isplitl [H9]; · iexists _; iexact H9
  isplitl [H10]; · iexists _; iexact H10
  isplitl [H11]; · iexists _; iexact H11
  isplitl [H12]; · iexists _; iexact H12
  iexists _; iexact H13

end Cert.Kernel.Own

end
-- ==== Proof.Kernel.Runs.lean ====
/- What the launch of the kernel's region needs: the buffers the region finds, the windows' blocks, the branch condition
   at each grid point, the transfers' semaphores, and the invariant a launch hands over. -/
module

public import proofs.«01_k».proof.Proof.Kernel.Body
public import proofs.«01_k».proof.Proof.Gen.Kernel.Launch
public import proofs.«01_k».proof.Proof.Gen.Kernel.Points
public import Idealize.ShloMosaic.Lib.Pipeline.FrameBody
public import Idealize.ShloMosaic.Lib.WordCmp

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer the two host reshapes do not write is found as launched. -/
theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the one found and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 2 rfl).trans ((hA c 2).trans (V_of m c main_arg0 (by decide) (by decide))),
      ((h c).2 main_arg1 (Pipeline.mem_restRefs_of main_arg1 (by decide) (by decide))).trans (V_of m c main_arg1 (by decide) (by decide)),
      (Pipeline.RDat.FramePost.arr_in h c 3 rfl).trans ((hA c 3).trans (V_of m c main_arg2 (by decide) (by decide))),
      (Pipeline.RDat.FramePost.arr_in h c 4 rfl).trans ((hA c 4).trans (V_of m c main_arg3 (by decide) (by decide))),
      (Pipeline.RDat.FramePost.arr_in h c 5 rfl).trans ((hA c 5).trans (V_of m c main_arg4 (by decide) (by decide))),
      (Pipeline.RDat.FramePost.arr_in h c 6 rfl).trans ((hA c 6).trans (V_of m c main_arg5 (by decide) (by decide))),
      ((h c).2 main_arg6 (Pipeline.mem_restRefs_of main_arg6 (by decide) (by decide))).trans (V_of m c main_arg6 (by decide) (by decide)),
      ((h c).2 main_arg7 (Pipeline.mem_restRefs_of main_arg7 (by decide) (by decide))).trans (V_of m c main_arg7 (by decide) (by decide))⟩) h

/-! ## The body's branch conditions -/

/-- The condition of the first step. -/
abbrev cond0_0 (i : grid0.Coords) : Prop := k0_cond1 i = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, k0_cond1, e0]
    word_cmp
   : ∀ t : Fin grid0.N, cond0_0 (grid0.coords t) ↔ t.val % 44 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8192 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8192 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x8192 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x8192 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x64 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2816x8192 .bf16 := Memref.whole cc0_scratch0
abbrev scM0_1 : Memref sig .tc .vmem S8x128 .f32 := Memref.whole cc0_scratch1
/-- The operands left in HBM that the body copies into scratch itself, whole. -/
abbrev hbM0_0 : Memref sig .tc .hbm S2816x8192 .bf16 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄G :=
  M.view.loc (c : Thread nD τ) ↦{fullShare} f

/-- The transfers' semaphores, as the kernel's own. -/
abbrev osem0 : Fin 44 → SemLoc sig := fun j => SemLoc.dma (cell cc0_scratch2 j)
theorem ownSemFacts0 : Pipeline.OwnSemFacts spec0 osem0 := by decide
/-- The HBM operand the body moves. -/
def H0 : Finset (Ref sig .tc) := {main_arg1}
theorem H0_sub : H0 ⊆ Pipeline.restRefs sig spec0 := by decide

/-- The launch's invariant, conjunct by conjunct. -/
theorem PhiD0_eq (c : Dev nD) :
    (Pipeline.ΦD osem0 spec0 H0 (V m) c : sProp 𝕄G)
      = iprop(((∃ d, owns (c : Thread nD τ) scM0_0 fullShare d) ∗ (∃ d, owns (c : Thread nD τ) scM0_1 fullShare d)) ∗ (∃ r, prngReg c r)
        ∗ cells (F := F) c cc0_scratch2 ∗ owns (c : Thread nD τ) hbM0_0 fullShare (V m c main_arg1)) := by
  rw [Pipeline.ΦD_eq, scopedRest0_eq, BI.bigSep_eq_bigSepL_of_eq [main_arg1] (by decide) (by decide)]; simp only [scM0_0, scM0_1, hbM0_0, owns_whole]; try rfl

end Cert.Kernel.Own

end
-- ==== Proof.Kernel.Carry.lean ====
/- The step at any grid point, from one point's invariant to the next. -/
module

public import proofs.«01_k».proof.Proof.Kernel.Owned
public import proofs.«01_k».proof.Proof.Kernel.Runs

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-! ## The scratch the steps carry -/

theorem pos0 : 0 < cfg0.N := by rw [show cfg0.N = 44 from N_0]; decide
/-- The first grid point. -/
abbrev first : Fin cfg0.N := ⟨0, pos0⟩

/-- What the gradient's scratch holds once the transfers have landed. -/
abbrev grad0 (c : Dev nD) : BufTy.Contents (Elt F) scM0_0.view.ty := landed (F := F) hbM0_0 scM0_0 (Memref.isWhole_whole _) (V m c main_arg1)

/-- What the coefficient's scratch holds after the first step. -/
abbrev coef0 (c : Dev nD) : BufTy.Contents (Elt F) scM0_1.view.ty :=
  (Memref.isWhole_whole cc0_scratch1).unread (Val := Elt F) (coefVec c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 ((hs0_1 first).unread (Val := Elt F) (iblk m c 1 first)) (V m c main_arg1) ((hcond0_0 first).mpr rfl))

/-- What the steps after the first start from: the gradient in place and landed, the coefficient stored, the semaphores at zero. -/
def Kept (c : Dev nD) : sProp 𝕄G :=
  iprop((hbM0_0.view.loc (c : Thread nD τ) ↦[hbM0_0.view.set]{fullShare} (V m c main_arg1)) ∗ (scM0_0.view.loc (c : Thread nD τ) ↦[scM0_0.view.set]{fullShare} (grad0 m c)) ∗ (scM0_1.view.loc (c : Thread nD τ) ↦[scM0_1.view.set]{fullShare} (coef0 m c)) ∗ (∃ r, prngReg c r) ∗ cells (F := F) c cc0_scratch2)

/-- The region's invariant before position `n`: at first the launch's, afterwards `Kept`. -/
def PhiS (c : Dev nD) : (n : ℕ) → n ≤ cfg0.N → sProp 𝕄G
  | 0, _ => Pipeline.ΦD osem0 spec0 H0 (V m) c
  | _ + 1, _ => Kept m c

theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) : PhiS m c n h = Kept m c := by
  cases n with
  | zero => exact absurd rfl hz
  | succ n => rfl

/-- What the step at point `t` stores into the results' buffers. -/
abbrev storedAt (c : Dev nD) (t : Fin cfg0.N) : List (View.Piece (Elt F) S64x8192 .f32) × List (View.Piece (Elt F) S64x8192 .i8) × List (View.Piece (Elt F) S64x64 .f32) × List (View.Piece (Elt F) S64x8192 .i8) × List (View.Piece (Elt F) S64x64 .f32) :=
  stored c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 (iblk m c 0 t) (iblk m c 2 t) (iblk m c 3 t) (iblk m c 4 t) (iblk m c 5 t) (iblk m c 6 t) (grad0 m c) (coef0 m c)

/-- A whole buffer owned is its points-to, at given contents -/
theorem whole_pts (c : Dev nD) (b : Ref sig .tc) (X : b.ty.Contents (Elt F)) :
    (owns (c : Thread nD τ) (Memref.whole b) fullShare X : sProp 𝕄G) = ((Memref.whole b).view.loc (c : Thread nD τ) ↦[(Memref.whole b).view.set]{fullShare} X) := by
  rw [owns_whole]; simp only [View.set_whole]
/-- and at some. -/
theorem exists_whole_pts (c : Dev nD) (b : Ref sig .tc) :
    (iprop(∃ X, owns (c : Thread nD τ) (Memref.whole b) fullShare X) : sProp 𝕄G) = iprop(∃ X, ((Memref.whole b).view.loc (c : Thread nD τ) ↦[(Memref.whole b).view.set]{fullShare} X)) :=
  congrArg _ (funext fun X => whole_pts c b X)

/-- The launch's invariant, the buffers by their contents. -/
theorem opened (c : Dev nD) : (Pipeline.ΦD osem0 spec0 H0 (V m) c : sProp 𝕄G)
    ⊢ iprop((∃ f, (scM0_0.view.loc (c : Thread nD τ) ↦[scM0_0.view.set]{fullShare} f)) ∗ (∃ f, (scM0_1.view.loc (c : Thread nD τ) ↦[scM0_1.view.set]{fullShare} f)) ∗ (∃ r, prngReg c r) ∗ cells (F := F) c cc0_scratch2 ∗ (hbM0_0.view.loc (c : Thread nD τ) ↦[hbM0_0.view.set]{fullShare} (V m c main_arg1))) := by
  rw [PhiD0_eq, whole_pts, show (iprop(∃ d, owns (c : Thread nD τ) scM0_0 fullShare d) : sProp 𝕄G) = _ from exists_whole_pts c cc0_scratch0,
    show (iprop(∃ d, owns (c : Thread nD τ) scM0_1 fullShare d) : sProp 𝕄G) = _ from exists_whole_pts c cc0_scratch1]
  iintro ⟨⟨H14, H15⟩, Hg, HS, H3⟩
  isplitl [H14]; · iexact H14
  isplitl [H15]; · iexact H15
  isplitl [Hg]; · iexact Hg
  isplitl [HS]; · iexact HS
  iexact H3

set_option maxHeartbeats 1600000 in
/-- The step at any point: from the invariant and the windows at their blocks to `Kept`, the windows as they were and the results' buffers as stored. -/
theorem step_at (c : Dev nD) (t : Fin cfg0.N) {K : PUnit → sProp 𝕄G} :
    iprop(PhiS m c t.val (Nat.le_of_lt t.isLt) ∗ (∃ W, owes (c : Thread nD τ) 0 W) ∗ (owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d))
      ⊢ iprop(((Kept m c ∗ (∃ W, owes (c : Thread nD τ) 0 W) ∗ (owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)) ∗ (∃ f, (ms0_7 t).view.loc (c : Thread nD τ) ↦[(ms0_7 t).view.set]{fullShare} (ms0_7 t).view.writes (Elt F) f (storedAt m c t).1) ∗ (∃ f, (ms0_8 t).view.loc (c : Thread nD τ) ↦[(ms0_8 t).view.set]{fullShare} (ms0_8 t).view.writes (Elt F) f (storedAt m c t).2.1) ∗ (∃ f, (ms0_9 t).view.loc (c : Thread nD τ) ↦[(ms0_9 t).view.set]{fullShare} (ms0_9 t).view.writes (Elt F) f (storedAt m c t).2.2.1) ∗ (∃ f, (ms0_10 t).view.loc (c : Thread nD τ) ↦[(ms0_10 t).view.set]{fullShare} (ms0_10 t).view.writes (Elt F) f (storedAt m c t).2.2.2.1) ∗ (∃ f, (ms0_11 t).view.loc (c : Thread nD τ) ↦[(ms0_11 t).view.set]{fullShare} (ms0_11 t).view.writes (Elt F) f (storedAt m c t).2.2.2.2)) -∗ K ⟨⟩)
        -∗ wp frame (wpE (defs₀ (F := F)) Variants.none c none) Set.univ (bodyAt0 t) K) := by
  unfold bodyAt0
  have hN : t.val < 44 := lt_of_lt_of_eq t.isLt (show cfg0.N = 44 from N_0)
  by_cases hz : t.val = 0
  · rw [PhiS_zero m c _ _ hz]
    obtain rfl : t = first := Fin.ext hz
    unfold Kept
    iintro ⟨HP, HO, HI, HX⟩ Hk
    ihave HP := (opened m c) $$ HP
    icases HP with ⟨⟨%f14, H14⟩, ⟨%f15, H15⟩, Hg, HS, H3⟩
    iapply (step_owned c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 (iblk m c 0 first) (iblk m c 1 first) (iblk m c 2 first) (iblk m c 3 first) (iblk m c 4 first) (iblk m c 5 first) (iblk m c 6 first) (V m c main_arg1) f14 (grad0 m c) f15 (coef0 m c) (fun Q => front_first c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 _ _ _ _ _ ((hcond0_0 first).mpr rfl))) $$ [HI H3 H14 H15 HS HO HX]
    · isplitl [HI]; · iexact HI
      isplitl [H3 H14 H15 HS HO]
      · isplitl [H3]; · iexact H3
        isplitl [H14]; · iexact H14
        isplitl [H15]; · iexact H15
        isplitl [HS]; · iexact HS
        iexact HO
      iexact HX
    iintro ⟨HI, ⟨H3, H14, H15, HS, HO⟩, HX⟩
    iapply Hk
    isplitl [H3 H14 H15 Hg HS]
    · isplitl [H3]; · iexact H3
      isplitl [H14]; · iexact H14
      isplitl [H15]; · iexact H15
      isplitl [Hg]; · iexact Hg
      iexact HS
    isplitl [HO]; · iexact HO
    isplitl [HI]; · iexact HI
    iexact HX
  · rw [PhiS_pos m c _ _ hz]
    unfold Kept
    iintro ⟨⟨H3, H14, H15, Hg, HS⟩, HO, HI, HX⟩ Hk
    iapply (step_owned c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 (iblk m c 0 t) (iblk m c 1 t) (iblk m c 2 t) (iblk m c 3 t) (iblk m c 4 t) (iblk m c 5 t) (iblk m c 6 t) (V m c main_arg1) (grad0 m c) (grad0 m c) (coef0 m c) (coef0 m c) (fun Q => front_later c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 _ _ _ _ _ (fun h => hz (by have := (hcond0_0 t).mp h; omega)))) $$ [HI H3 H14 H15 HS HO HX]
    · isplitl [HI]; · iexact HI
      isplitl [H3 H14 H15 HS HO]
      · isplitl [H3]; · iexact H3
        isplitl [H14]; · iexact H14
        isplitl [H15]; · iexact H15
        isplitl [HS]; · iexact HS
        iexact HO
      iexact HX
    iintro ⟨HI, ⟨H3, H14, H15, HS, HO⟩, HX⟩
    iapply Hk
    isplitl [H3 H14 H15 Hg HS]
    · isplitl [H3]; · iexact H3
      isplitl [H14]; · iexact H14
      isplitl [H15]; · iexact H15
      isplitl [Hg]; · iexact Hg
      iexact HS
    isplitl [HO]; · iexact HO
    isplitl [HI]; · iexact HI
    iexact HX

end Cert.Kernel.Own

end
-- ==== Proof.Kernel.Frame.lean ====
/- The launch leaves its arguments as they were. -/
module

public import proofs.«01_k».proof.Proof.Kernel.Carry
public import Idealize.ShloMosaic.Lib.Claim

@[expose] public section

set_option maxRecDepth 8192

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)
/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant
    `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point: `step_at`, what it stores forgotten. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).Φ t.succ = Kept m c from rfl, PhiS_castSucc m c t,
    after0_0, after0_1, after0_2, after0_3, after0_4, after0_5, after0_6]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, H7, H8, H9, H10, H11⟩
  iapply (step_at m c t) $$ [HP HW H0 H1 H2 H3 H4 H5 H6 H7 H8 H9 H10 H11]
  · isplitl [HP]; · iexact HP
    isplitl [HW]; · iexists W; iexact HW
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    isplitl [H10]; · iexact H10
    iexact H11
  iintro ⟨HP, ⟨%W', HW'⟩, ⟨H0, H1, H2, H3, H4, H5, H6⟩, ⟨%f7, H7⟩, ⟨%f8, H8⟩, ⟨%f9, H9⟩, ⟨%f10, H10⟩, ⟨%f11, H11⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]; · iexists _; iexists _; isplitr; swap; iexact H7; ipureintro; rfl
  isplitl [H8]; · iexists _; iexists _; isplitr; swap; iexact H8; ipureintro; rfl
  isplitl [H9]; · iexists _; iexists _; isplitr; swap; iexact H9; ipureintro; rfl
  isplitl [H10]; · iexists _; iexists _; isplitr; swap; iexact H10; ipureintro; rfl
  iexists _; iexists _; isplitr; swap; iexact H11; ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq, whole_pts, show (iprop(∃ d, owns (c : Thread nD τ) scM0_0 fullShare d) : sProp 𝕄G) = _ from exists_whole_pts c cc0_scratch0,
    show (iprop(∃ d, owns (c : Thread nD τ) scM0_1 fullShare d) : sProp 𝕄G) = _ from exists_whole_pts c cc0_scratch1]
  unfold Kept
  iintro ⟨Hh, HS0, HS1, Hg, Hq⟩
  isplitl [HS0 HS1]
  · isplitl [HS0]
    · iexists _; iexact HS0
    iexists _; iexact HS1
  isplitl [Hg]; · iexact Hg
  isplitl [Hq]; · iexact Hq
  iexact Hh

/-- The same after the last point. -/
theorem hout (c : Dev nD) : (dats m 0 c).Φ (Fin.last cfg0.N) ⊢ Pipeline.ΦD osem0 spec0 H0 (V m) c :=
  Phi_out m c _ (by rw [Fin.val_last]; have : cfg0.N = 44 := N_0; omega)

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Own

end
-- ==== Proof.KernelIdeal.Starts.lean ====
/- The first grid step starts forty-four transfers, each moving sixty-four rows of the gradient into the resident copy.
   Here: the row windows, the family of their states, and what one start does to that family. -/
module

public import proofs.«01_k».proof.Proof.Gen.KernelIdeal.Skeleton
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-! ## The windows -/

theorem rows_inb (j : Fin 44) : ∀ a, (![64 * j.val, 0] : Fin 2 → Nat) a + S64x8192.size a ≤ S2816x8192.size a := by
  intro a
  have hj := j.isLt
  match a with
  | 0 => show 64 * j.val + 64 ≤ 2816; omega
  | 1 => show 0 + 8192 ≤ 8192; omega

theorem cell_inb (j : Fin 44) : ∀ a, (![j.val] : Fin 1 → Nat) a + S1.size a ≤ S44.size a := by
  intro a
  have hj := j.isLt
  match a with
  | 0 => show j.val + 1 ≤ 44; omega

/-- Rows `64 j … 64 j + 63`. -/
abbrev rows (j : Fin 44) : Rect S2816x8192 := Rect.unit (s := S2816x8192) ![64 * j.val, 0] S64x8192.size (rows_inb j)

/-- Transfer `j`'s semaphore. -/
abbrev cell (arg16 : DmaSems sig S44) (j : Fin 44) : DmaSem sig :=
  ((arg16.slice (Rect.unit (s := S44) ![j.val] S1.size (cell_inb j))).squeeze S_ squeezes_S1_S_).sem

theorem mem_rows (j : Fin 44) (x : S2816x8192.Idx) : x ∈ (rows j).set ↔ (x 0).val / 64 = j.val := by
  rw [Rect.mem_set_unit]
  have h1 : (x 1).val < 8192 := (x 1).isLt
  constructor
  · intro h
    have h0 := h 0
    have hl : 64 * j.val ≤ (x 0).val := h0.1
    have hr : (x 0).val < 64 * j.val + 64 := h0.2
    omega
  · intro h a
    match a with
    | 0 => show 64 * j.val ≤ (x 0).val ∧ (x 0).val < 64 * j.val + 64; omega
    | 1 => show 0 ≤ (x 1).val ∧ (x 1).val < 0 + 8192; omega

theorem rows_disjoint (j j' : Fin 44) (h : j ≠ j') : Disjoint (rows j).set (rows j').set := by
  rw [Finset.disjoint_left]
  intro x hx hx'
  rw [mem_rows] at hx hx'
  exact h (Fin.ext (hx.symm.trans hx'))

theorem rows_cover : (Finset.univ : Finset (Fin 44)).biUnion (fun j => (rows j).set) = Finset.univ := by
  ext x
  simp only [Finset.mem_biUnion, Finset.mem_univ, true_and, iff_true]
  have h0 : (x 0).val < 2816 := (x 0).isLt
  exact ⟨⟨(x 0).val / 64, by omega⟩, (mem_rows _ _).mpr rfl⟩

section

variable (c : Dev nD) (arg3 : Memref sig .tc .hbm S2816x8192 .bf16) (arg14 : Memref sig .tc .vmem S2816x8192 .bf16) (harg14 : arg14.IsWhole) (arg16 : DmaSems sig S44)
variable (f3 : BufTy.Contents (Elt F) arg3.view.ty) (f14 : BufTy.Contents (Elt F) arg14.view.ty)

/-- A whole buffer held is its windows held. -/
theorem pts_rows {sp : Space} (m : Memref sig .tc sp S2816x8192 .bf16) (f : BufTy.Contents (Elt F) m.view.ty) :
    (m.view.loc (c : Thread nD τ) ↦[m.view.set]{fullShare} f : sProp 𝕄G)
      = bigSep (Finset.univ : Finset (Fin 44)) fun j => m.view.loc (c : Thread nD τ) ↦[m.view.setOn (rows j).set]{fullShare} f := by
  have h : m.view.set = (Finset.univ : Finset (Fin 44)).biUnion fun j => m.view.setOn (rows j).set := by
    ext i
    simp only [View.set, View.setOn, Finset.mem_map, Finset.mem_biUnion, Finset.mem_univ, true_and]
    constructor
    · rintro ⟨x, rfl⟩
      have hx : x ∈ (Finset.univ : Finset (Fin 44)).biUnion (fun j => (rows j).set) := by rw [rows_cover]; exact Finset.mem_univ x
      obtain ⟨j, -, hj⟩ := Finset.mem_biUnion.mp hx
      exact ⟨j, x, hj, rfl⟩
    · rintro ⟨j, x, -, rfl⟩; exact ⟨x, rfl⟩
  rw [h]
  refine pointsTo_biUnion _ _ fun j _ j' _ hne => ?_
  show Disjoint (Finset.map _ _) (Finset.map _ _)
  rw [Finset.disjoint_map]
  exact rows_disjoint j j' hne

/-- The resident copy's contents once every transfer has landed. -/
abbrev landed : BufTy.Contents (Elt F) arg14.view.ty := harg14.unread (arg3.view.read (Elt F) f3)

/-- Window `j` before its transfer starts. -/
abbrev idle (j : Fin 44) : sProp 𝕄G :=
  iprop((arg3.view.loc (c : Thread nD τ) ↦[arg3.view.setOn (rows j).set]{fullShare} f3)
    ∗ (arg14.view.loc (c : Thread nD τ) ↦[arg14.view.setOn (rows j).set]{fullShare} f14) ∗ semVal ((c : Thread nD τ), SemLoc.dma (cell arg16 j)) 0)

/-- The units a window's transfer counts. -/
abbrev units : ℕ := sig.dmaCredit .tc (Kind.tc.table .vmem) arg14.view.buf S64x8192 .bf16

theorem units_pos : 0 < units arg14 := View.dmaCredit_pos (arg14.slice (rows 0) (fun _ => rfl)).view (by decide)

/-- Window `j` between its start and its wait: what the wait will deliver. -/
abbrev flying (j : Fin 44) : sProp 𝕄G :=
  Transfers.Flight countersEmb (c : Thread nD τ) (SemLoc.dma (cell arg16 j)) () (units arg14)
    iprop((arg14.view.loc (c : Thread nD τ) ↦[arg14.view.setOn (rows j).set]{fullShare} landed arg3 arg14 harg14 f3)
      ∗ (arg3.view.loc (c : Thread nD τ) ↦[arg3.view.setOn (rows j).set]{fullShare} f3))

/-- All windows when the first `n` transfers have started. -/
abbrev started (n : ℕ) : sProp 𝕄G :=
  bigSep (Finset.univ : Finset (Fin 44)) fun j =>
    if j.val < n then flying c arg3 arg14 harg14 arg16 f3 j else idle c arg3 arg14 arg16 f3 f14 j

/-- All windows when the first `n` transfers have been waited for. -/
abbrev waited (n : ℕ) : sProp 𝕄G :=
  bigSep (Finset.univ : Finset (Fin 44)) fun j =>
    if j.val < n then idle c arg3 arg14 arg16 f3 (landed arg3 arg14 harg14 f3) j else flying c arg3 arg14 harg14 arg16 f3 j

/-- A family told by a threshold: member `n` apart, and the family at the next threshold from its new state. -/
theorem family_step (A B : Fin 44 → sProp 𝕄G) (j : Fin 44) :
    (bigSep (Finset.univ : Finset (Fin 44)) fun i => if i.val < j.val then A i else B i)
      ⊢ iprop(B j ∗ (A j -∗ bigSep (Finset.univ : Finset (Fin 44)) fun i => if i.val < j.val + 1 then A i else B i)) := by
  have ht : (bigSep (Finset.univ : Finset (Fin 44)) fun i => if i.val < j.val then A i else B i)
      = iprop(B j ∗ bigSep (Finset.univ.erase j) fun i : Fin 44 => if i.val < j.val then A i else B i) :=
    (bigSep_erase (Finset.mem_univ j)).trans (by rw [if_neg (lt_irrefl _)]; rfl)
  have hp : (bigSep (Finset.univ : Finset (Fin 44)) fun i => if i.val < j.val + 1 then A i else B i)
      = iprop(A j ∗ bigSep (Finset.univ.erase j) fun i : Fin 44 => if i.val < j.val + 1 then A i else B i) :=
    (bigSep_erase (Finset.mem_univ j)).trans (by rw [if_pos (Nat.lt_succ_self _)]; rfl)
  have hc : (bigSep (Finset.univ.erase j) fun i : Fin 44 => if i.val < j.val then A i else B i)
      = bigSep (Finset.univ.erase j) fun i : Fin 44 => if i.val < j.val + 1 then A i else B i := by
    refine bigSep_congr fun i hi => ?_
    have hne : i.val ≠ j.val := fun e => (Finset.mem_erase.mp hi).1 (Fin.ext e)
    by_cases h : i.val < j.val
    · rw [if_pos h, if_pos (Nat.lt_succ_of_lt h)]
    · rw [if_neg h, if_neg (by omega)]
  rw [ht, hp, hc]
  iintro ⟨HB, HR⟩
  isplitl [HB]; · iexact HB
  iintro HA
  isplitl [HA]; · iexact HA
  iexact HR

/-- What a landed window holds is the gradient's rows, whatever it held before. -/
theorem landed_window (j : Fin 44) :
    (arg14.view.loc (c : Thread nD τ) ↦[(arg14.slice (rows j) (fun _ => rfl)).view.set]{fullShare}
        ((arg14.slice (rows j) (fun _ => rfl)).view.write (Elt F) f14 (ReadAs.same.apply ((arg3.slice (rows j) (fun _ => rfl)).view.read (Elt F) f3)) Finset.univ) : sProp 𝕄G)
      = (arg14.view.loc (c : Thread nD τ) ↦[(arg14.slice (rows j) (fun _ => rfl)).view.set]{fullShare} landed arg3 arg14 harg14 f3) := by
  refine pointsTo_congr fun i hi => ?_
  obtain ⟨x, -, rfl⟩ := Finset.mem_map.mp hi
  rw [View.write_emb_of_mem _ _ (Finset.mem_univ _)]
  have h := congrFun (harg14.read_unread (arg3.view.read (Elt F) f3)) ((rows j).emb x)
  rw [View.read_apply] at h
  have h2 : ReadAs.same.apply ((arg3.slice (rows j) (fun _ => rfl)).view.read (Elt F) f3) x = arg3.view.read (Elt F) f3 ((rows j).emb x) := rfl
  rw [h2, ← h, cast_cast, cast_eq]
  rfl

/-- One start, window and semaphore spelled as the program spells them. -/
theorem wp_start (j : Fin 44) {off : Fin 2 → ℕ} (hoff : off = ![64 * j.val, 0]) {soff : Fin 1 → ℕ} (hsoff : soff = ![j.val])
    (h1 : ∀ a, off a + S64x8192.size a ≤ S2816x8192.size a) (h2 : ∀ a, soff a + S1.size a ≤ S44.size a)
    {hsrc : (arg3.slice (Rect.unit (s := S2816x8192) off S64x8192.size h1) (fun _ => rfl)).view.WordExact}
    {hdst : (arg14.slice (Rect.unit (s := S2816x8192) off S64x8192.size h1) (fun _ => rfl)).view.WordExact}
    {hsem : DmaTarget.Typed (nD := nD) (τ := τ) (p := .tc) Space.hbm (SemLoc.dma ((arg16.slice (Rect.unit (s := S44) soff S1.size h2)).squeeze S_ squeezes_S1_S_).sem) (.here (arg14.slice (Rect.unit (s := S2816x8192) off S64x8192.size h1) (fun _ => rfl)))}
    {Q : PUnit → sProp 𝕄G} :
    started c arg3 arg14 harg14 arg16 f3 f14 j.val
      ⊢ iprop((started c arg3 arg14 harg14 arg16 f3 f14 (j.val + 1) -∗ Q ⟨⟩)
        -∗ wp frame (wpE (defs₀ (F := F)) Variants.none (c : Thread nD τ) none) Set.univ
          (Prog.lift (.enqueueDma (arg3.slice (Rect.unit (s := S2816x8192) off S64x8192.size h1) (fun _ => rfl))
            (.here (arg14.slice (Rect.unit (s := S2816x8192) off S64x8192.size h1) (fun _ => rfl)))
            (.dma ((arg16.slice (Rect.unit (s := S44) soff S1.size h2)).squeeze S_ squeezes_S1_S_).sem) hsrc hdst hsem)) Q) := by
  subst hoff hsoff
  iintro HP Hk
  ihave HP2 := (family_step (flying c arg3 arg14 harg14 arg16 f3) (idle c arg3 arg14 arg16 f3 f14) j) $$ HP
  icases HP2 with ⟨⟨Hs, Hd, Hv⟩, Hback⟩
  iapply (Transfers.wp_dmaLocal countersEmb Variants.none (c : Thread nD τ) none
    (src := arg3.slice (rows j) (fun _ => rfl)) (dst := arg14.slice (rows j) (fun _ => rfl)) (q := fullShare) (fs := f3) (fd := f14)
    (Sd := (arg14.slice (rows j) (fun _ => rfl)).view.set) () (units arg14) rfl (units_pos arg14) subset_rfl) $$ [Hs Hd Hv]
  · rw [View.set_slice, View.set_slice]
    isplitl [Hs]; · iexact Hs
    isplitl [Hd]; · iexact Hd
    iexact Hv
  iintro HF
  rw [landed_window c arg3 arg14 harg14 f3 f14 j]
  sl_step
  iapply Hk
  iapply Hback
  rw [View.set_slice, View.set_slice]
  iexact HF

/-- The next start of a run of starts: which one it is, is read off the family held. -/
theorem wp_next {n : ℕ} {off : Fin 2 → ℕ} {soff : Fin 1 → ℕ}
    {h1 : ∀ a, off a + S64x8192.size a ≤ S2816x8192.size a} {h2 : ∀ a, soff a + S1.size a ≤ S44.size a}
    {hsrc : (arg3.slice (Rect.unit (s := S2816x8192) off S64x8192.size h1) (fun _ => rfl)).view.WordExact}
    {hdst : (arg14.slice (Rect.unit (s := S2816x8192) off S64x8192.size h1) (fun _ => rfl)).view.WordExact}
    {hsem : DmaTarget.Typed (nD := nD) (τ := τ) (p := .tc) Space.hbm (SemLoc.dma ((arg16.slice (Rect.unit (s := S44) soff S1.size h2)).squeeze S_ squeezes_S1_S_).sem) (.here (arg14.slice (Rect.unit (s := S2816x8192) off S64x8192.size h1) (fun _ => rfl)))}
    {Q : PUnit → sProp 𝕄G} :
    iprop(started c arg3 arg14 harg14 arg16 f3 f14 n ∗ ⌜n < 44 ∧ off = ![64 * n, 0] ∧ soff = ![n]⌝)
      ⊢ iprop((started c arg3 arg14 harg14 arg16 f3 f14 (n + 1) -∗ Q ⟨⟩)
        -∗ wp frame (wpE (defs₀ (F := F)) Variants.none (c : Thread nD τ) none) Set.univ
          (Prog.lift (.enqueueDma (arg3.slice (Rect.unit (s := S2816x8192) off S64x8192.size h1) (fun _ => rfl))
            (.here (arg14.slice (Rect.unit (s := S2816x8192) off S64x8192.size h1) (fun _ => rfl)))
            (.dma ((arg16.slice (Rect.unit (s := S44) soff S1.size h2)).squeeze S_ squeezes_S1_S_).sem) hsrc hdst hsem)) Q) := by
  iintro ⟨HP, %h⟩
  obtain ⟨hn, ho, hs⟩ := h
  iapply (wp_start c arg3 arg14 harg14 arg16 f3 f14 ⟨n, hn⟩ ho hs h1 h2) $$ HP

end

end Cert.KernelIdeal.Own

end
-- ==== Proof.KernelIdeal.Rows.lean ====
/- The row loop over one landed window of the gradient: one trip reads sixteen rows inside the window and adds their squares. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

abbrev Trip_k0_t2 (c : Dev nD) (arg14 : Memref sig .tc .vmem S2816x8192 .bf16) (S : Finset (Idx (arg14.view.loc (c : Thread nD τ)))) (X_arg14 : BufTy.Contents (Elt F) arg14.view.ty) : sProp 𝕄G :=
  iprop((arg14.view.loc (c : Thread nD τ) ↦[S]{fullShare} X_arg14))

@[irreducible] def trip_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (k : Fin k0_t2_loop.trips) :
    { R_k0_t2 : ((FVec F S8x1024 .f32) → FVec F S8x1024 .f32) // ∀ (E : Set ℕ) (acc : FVec F S8x1024 .f32),
      Trip_k0_t2 (F := F) c arg14 (arg14.view.setOn (Rect.unit (s := S2816x8192) (k0_off2 k0_t1) S64x8192.size (k0_off2_inb i k0_t1 k0_h1)).set) X_arg14
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 k acc)
          (fun yld => iprop(⌜yld = R_k0_t2 acc⌝ ∗ Trip_k0_t2 (F := F) c arg14 (arg14.view.setOn (Rect.unit (s := S2816x8192) (k0_off2 k0_t1) S64x8192.size (k0_off2_inb i k0_t1 k0_h1)).set) X_arg14)) } := by
  have hk : k.val < 4 := Nat.lt_of_lt_of_le k.isLt k0_t2_abs.2.1
  refine ⟨?_, fun E acc => ?run⟩
  case run =>
    unfold k0_t2_body
    iintro HR_arg14
    sl_exec
    sl_step
    sl_close

abbrev tripR_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (k : Fin k0_t2_loop.trips) (acc : FVec F S8x1024 .f32) : FVec F S8x1024 .f32 :=
  (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k).1 acc

@[irreducible] def st_k0_t2Step (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : ℕ) (prev : FVec F S8x1024 .f32) : FVec F S8x1024 .f32 :=
  if h : k < k0_t2_loop.trips then
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 ⟨k, h⟩ prev
  else prev

def st_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) : ℕ → FVec F S8x1024 .f32
  | 0 => init
  | k + 1 => st_k0_t2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k)

theorem st_k0_t2_succ (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : Fin k0_t2_loop.trips) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init (k.val + 1)
      = (tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k.val)) := by
  rw [st_k0_t2.eq_2]; unfold st_k0_t2Step; exact dif_pos k.isLt

theorem st_k0_t2_zero (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init 0) = init := rfl

abbrev inv_k0_t2 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) (k : ℕ) (acc : FVec F S8x1024 .f32) : sProp 𝕄G :=
  iprop((arg14.view.loc (c : Thread nD τ) ↦[(arg14.view.setOn (Rect.unit (s := S2816x8192) (k0_off2 k0_t1) S64x8192.size (k0_off2_inb i k0_t1 k0_h1)).set)]{fullShare} X_arg14) ∗ ⌜acc = (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k)⌝)

set_option warn.classDefReducibility false in
def loopInv_k0_t2 (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (init : FVec F S8x1024 .f32) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 init where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init
  step k acc := by
    iintro ⟨HR_arg14, %h_acc⟩
    subst h_acc
    iapply (wp_wand_r Idealize.ShloMosaic.frame (wpE (defs₀ (F := F)) 𝒱 (c : Thread nD τ) bd) E)
    isplitl [HR_arg14]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k).2 E (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init k))
      iexact HR_arg14
    · iintro %yld ⟨%h_res, HR_arg14⟩
      isplitl [HR_arg14]; · iexact HR_arg14
      simp only [st_k0_t2_succ]
      ipureintro; rw [h_res]

end Cert.KernelIdeal.Own

end
-- ==== Proof.KernelIdeal.Step0.lean ====
/- The first grid step up to its last wait: the forty-four starts in a row, and the loop that waits for them one by one
   and sums the squares of what landed. -/
module

public import proofs.«01_k».proof.Proof.KernelIdeal.Starts
public import proofs.«01_k».proof.Proof.KernelIdeal.Rows
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (f3 : BufTy.Contents (Elt F) arg3.view.ty) (f14 : BufTy.Contents (Elt F) arg14.view.ty)

/-- One wait: the window delivered, to be read and put back. -/
theorem wp_landed (j : Fin 44) {off : Fin 2 → ℕ} (hoff : off = ![64 * j.val, 0]) {soff : Fin 1 → ℕ} (hsoff : soff = ![j.val])
    (h1 : ∀ a, off a + S64x8192.size a ≤ S2816x8192.size a) (h2 : ∀ a, soff a + S1.size a ≤ S44.size a)
    {hsrc : (arg3.slice (Rect.unit (s := S2816x8192) off S64x8192.size h1) (fun _ => rfl)).view.WordExact}
    {hdst : (arg14.slice (Rect.unit (s := S2816x8192) off S64x8192.size h1) (fun _ => rfl)).view.WordExact}
    {W : Waits sig Unit} {Q : PUnit → sProp 𝕄G} :
    iprop(flying c arg3 arg14 harg14 arg16 f3 j ∗ owes (c : Thread nD τ) 0 W)
      ⊢ iprop((((arg14.view.loc (c : Thread nD τ) ↦[arg14.view.setOn (Rect.unit (s := S2816x8192) off S64x8192.size h1).set]{fullShare} landed arg3 arg14 harg14 f3)
            ∗ ((arg14.view.loc (c : Thread nD τ) ↦[arg14.view.setOn (Rect.unit (s := S2816x8192) off S64x8192.size h1).set]{fullShare} landed arg3 arg14 harg14 f3)
              -∗ idle c arg3 arg14 arg16 f3 (landed arg3 arg14 harg14 f3) j)
            ∗ (∃ W', owes (c : Thread nD τ) 0 W')) -∗ Q ⟨⟩)
        -∗ wp frame (wpE (defs₀ (F := F)) Variants.none (c : Thread nD τ) none) Set.univ
          (Prog.lift (.waitDma2 ((arg16.slice (Rect.unit (s := S44) soff S1.size h2)).squeeze S_ squeezes_S1_S_).sem
            (arg3.slice (Rect.unit (s := S2816x8192) off S64x8192.size h1) (fun _ => rfl))
            (arg14.slice (Rect.unit (s := S2816x8192) off S64x8192.size h1) (fun _ => rfl)) hsrc hdst)) Q) := by
  subst hoff hsoff
  iintro ⟨HF, HO⟩ Hk
  iapply (Transfers.wp_waitLocal countersEmb Variants.none (c : Thread nD τ) none (srcw := arg3.slice (rows j) (fun _ => rfl))
    (dstw := arg14.slice (rows j) (fun _ => rfl)) () (N := units arg14) rfl) $$ [HF HO]
  · isplitl [HF]; · iexact HF
    iexact HO
  iintro ⟨⟨Hd, Hs⟩, Hv, HO⟩
  sl_step
  iapply Hk
  isplitl [Hd]; · iexact Hd
  isplitl [Hs Hv]
  · iintro Hd
    isplitl [Hs]; · iexact Hs
    isplitl [Hd]; · iexact Hd
    iexact Hv
  iexists _; iexact HO

variable (k0_h1 : k0_cond1 i = 1#1) (v568 : Elt F .f32)

/-- The squares summed over the windows before the `n`th. -/
def squares : ℕ → FVec F S8x1024 .f32
  | 0 => k0_pay8 (F := F)
  | n + 1 => if h : n < k0_t1_loop.trips then
      st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 ⟨n, h⟩ (Scf.iv 0#32 1#32 n) (landed arg3 arg14 harg14 f3) (squares n) k0_t2_loop.trips
    else squares n

/-- The waiting loop's invariant. -/
abbrev inv_waits (n : ℕ) (acc : FVec F S8x1024 .f32) : sProp 𝕄G :=
  iprop(waited c arg3 arg14 harg14 arg16 f3 n ∗ (∃ W, owes (c : Thread nD τ) 0 W) ∗ ⌜acc = squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 n⌝)

theorem waits_step (k : Fin k0_t1_loop.trips) (acc : FVec F S8x1024 .f32) :
    inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 k.val acc
      ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k acc)
        (inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 (k.val + 1)) := by
  have hk : k.val < 44 := Nat.lt_of_lt_of_le k.isLt k0_t1_abs.2.1
  unfold k0_t1_body
  iintro ⟨HP, ⟨%W, HO⟩, %hacc⟩
  subst hacc
  ihave HP2 := (family_step (idle c arg3 arg14 arg16 f3 (landed arg3 arg14 harg14 f3)) (flying c arg3 arg14 harg14 arg16 f3) ⟨k.val, hk⟩) $$ HP
  icases HP2 with ⟨HF, Hback⟩
  simp only [wp_bind]
  iapply (wp_landed c arg3 arg14 harg14 arg16 f3 ⟨k.val, hk⟩ (k0_off2_eq k) (k0_off1_eq k) _ _) $$ [HF HO]
  · isplitl [HF]; · iexact HF
    iexact HO
  iintro ⟨Hd, Hidle, HO⟩
  iapply (Scf.wp_for frame (wpE (defs₀ (F := F)) Variants.none (c : Thread nD τ) none) Set.univ k0_t2_loop.lb k0_t2_loop.ub k0_t2_loop.st
    (k0_t2_ok i k0_h1) _ _ (inv_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k (Scf.iv 0#32 1#32 k) (landed arg3 arg14 harg14 f3) _)
    (loopInv_k0_t2 (F := F) Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k (Scf.iv 0#32 1#32 k) (landed arg3 arg14 harg14 f3) _).step)
  isplitl [Hd]
  · isplitl [Hd]; · iexact Hd
    ipureintro; rfl
  iintro %acc ⟨Hd, %hacc⟩
  sl_step
  isplitl [Hback Hidle Hd]
  · iapply Hback
    iapply Hidle
    iexact Hd
  isplitl [HO]; · iexact HO
  ipureintro
  rw [hacc, squares, dif_pos k.isLt]

/-- The scalar a one-word SMEM buffer holds. -/
abbrev word {e : EltTy} (a : Memref sig .tc .smem S1 e) (X : BufTy.Contents (Elt F) a.view.ty) : Elt F e :=
  a.view.readAt (Elt F) (Rect.unit (s := S1) ![0] S1.size inb_S1_S1_0).toLoadRect X (Shape.Idx.first (numel1_S1.symm ▸ Nat.one_pos))

/-- With every transfer started and none waited for, the two families are the same. -/
theorem started_all : (started c arg3 arg14 harg14 arg16 f3 f14 44 : sProp 𝕄G) ⊢ waited c arg3 arg14 harg14 arg16 f3 0 :=
  le_of_eq (bigSep_congr fun j _ => by rw [if_pos j.isLt, if_neg (Nat.not_lt_zero _)])

/-- Six starts in a row, as one part of the program has them. -/
theorem starts3 {Q : PUnit → sProp 𝕄G} :
    started c arg3 arg14 harg14 arg16 f3 f14 0
      ⊢ iprop((started c arg3 arg14 harg14 arg16 f3 f14 6 -∗ Q ⟨⟩)
        -∗ wp frame (wpE (defs₀ (F := F)) Variants.none (c : Thread nD τ) none) Set.univ (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part3_eq_skeleton]
  unfold k0_part3_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts4 {Q : PUnit → sProp 𝕄G} :
    started c arg3 arg14 harg14 arg16 f3 f14 6
      ⊢ iprop((started c arg3 arg14 harg14 arg16 f3 f14 12 -∗ Q ⟨⟩)
        -∗ wp frame (wpE (defs₀ (F := F)) Variants.none (c : Thread nD τ) none) Set.univ (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part4_eq_skeleton]
  unfold k0_part4_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts5 {Q : PUnit → sProp 𝕄G} :
    started c arg3 arg14 harg14 arg16 f3 f14 12
      ⊢ iprop((started c arg3 arg14 harg14 arg16 f3 f14 18 -∗ Q ⟨⟩)
        -∗ wp frame (wpE (defs₀ (F := F)) Variants.none (c : Thread nD τ) none) Set.univ (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part5_eq_skeleton]
  unfold k0_part5_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts6 {Q : PUnit → sProp 𝕄G} :
    started c arg3 arg14 harg14 arg16 f3 f14 18
      ⊢ iprop((started c arg3 arg14 harg14 arg16 f3 f14 24 -∗ Q ⟨⟩)
        -∗ wp frame (wpE (defs₀ (F := F)) Variants.none (c : Thread nD τ) none) Set.univ (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part6_eq_skeleton]
  unfold k0_part6_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts7 {Q : PUnit → sProp 𝕄G} :
    started c arg3 arg14 harg14 arg16 f3 f14 24
      ⊢ iprop((started c arg3 arg14 harg14 arg16 f3 f14 30 -∗ Q ⟨⟩)
        -∗ wp frame (wpE (defs₀ (F := F)) Variants.none (c : Thread nD τ) none) Set.univ (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part7_eq_skeleton]
  unfold k0_part7_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts8 {Q : PUnit → sProp 𝕄G} :
    started c arg3 arg14 harg14 arg16 f3 f14 30
      ⊢ iprop((started c arg3 arg14 harg14 arg16 f3 f14 36 -∗ Q ⟨⟩)
        -∗ wp frame (wpE (defs₀ (F := F)) Variants.none (c : Thread nD τ) none) Set.univ (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part8_eq_skeleton]
  unfold k0_part8_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- Six starts in a row, as one part of the program has them. -/
theorem starts9 {Q : PUnit → sProp 𝕄G} :
    started c arg3 arg14 harg14 arg16 f3 f14 36
      ⊢ iprop((started c arg3 arg14 harg14 arg16 f3 f14 42 -∗ Q ⟨⟩)
        -∗ wp frame (wpE (defs₀ (F := F)) Variants.none (c : Thread nD τ) none) Set.univ (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part9_eq_skeleton]
  unfold k0_part9_skel
  iintro HP Hk
  iterate 6
    try simp only [wp_bind]
    iapply (wp_next c arg3 arg14 harg14 arg16 f3 f14) $$ [HP]
    · isplitl [HP]
      · iexact HP
      · ipureintro; exact ⟨by decide, rfl, rfl⟩
    iintro HP
  sl_step
  iapply Hk
  iexact HP

/-- The first step's transfers and sums, whole: every window landed, and the scalar word read with the squares' sum. -/
theorem part10_spec (W : Waits sig Unit) (X2 : BufTy.Contents (Elt F) arg2.view.ty) (X15 : BufTy.Contents (Elt F) arg15.view.ty)
    {Q : (Σ' (v586 : FVec F S8x128 .f32), Vec F S8x128 .f32) → sProp 𝕄G} :
    iprop(started c arg3 arg14 harg14 arg16 f3 f14 0 ∗ owes (c : Thread nD τ) 0 W
        ∗ (arg2.view.loc (c : Thread nD τ) ↦[arg2.view.set]{fullShare} X2) ∗ (arg15.view.loc (c : Thread nD τ) ↦[arg15.view.set]{fullShare} X15))
      ⊢ iprop((∀ v, (waited c arg3 arg14 harg14 arg16 f3 44 ∗ (∃ W', owes (c : Thread nD τ) 0 W')
          ∗ (arg2.view.loc (c : Thread nD τ) ↦[arg2.view.set]{fullShare} X2) ∗ (arg15.view.loc (c : Thread nD τ) ↦[arg15.view.set]{fullShare} X15))
            -∗ Q ⟨k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 (word arg2 X2) 44), v⟩)
        -∗ wp frame (wpE (defs₀ (F := F)) Variants.none (c : Thread nD τ) none) Set.univ (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1) Q) := by
  simp only [k0_part10_eq_skeleton]
  unfold k0_part10_skel
  iintro ⟨HP, HO, H2, H15⟩ Hk
  simp only [wp_bind]
  iapply (starts3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iapply (starts9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 f14) $$ HP
  iintro HP
  iterate 2
    try simp only [wp_bind]
    iapply (wp_next c arg3 arg14 harg14 arg16 f3 f14) $$ [HP]
    · isplitl [HP]
      · iexact HP
      · ipureintro; exact ⟨by decide, rfl, rfl⟩
    iintro HP
  unfold smemLoad smemLoadElt
  sl_step
  sl_step
  iapply (Scf.wp_for frame (wpE (defs₀ (F := F)) Variants.none (c : Thread nD τ) none) Set.univ k0_t1_loop.lb k0_t1_loop.ub k0_t1_loop.st
    (k0_t1_ok i k0_h1) _ _ (inv_waits c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 _) (waits_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 _))
  isplitl [HP HO]
  · ihave HP := (started_all c arg3 arg14 harg14 arg16 f3 f14) $$ HP
    isplitl [HP]; · iexact HP
    isplitl [HO]; · iexists _; iexact HO
    ipureintro; rfl
  iintro %acc ⟨HP, HO, %hacc⟩
  have ht : Scf.trips k0_t1_loop.lb k0_t1_loop.ub k0_t1_loop.st = 44 := by decide
  rw [ht] at hacc
  subst hacc
  rw [ht]
  sl_exec
  sl_step
  iapply Hk
  isplitl [HP]; · iexact HP
  isplitl [HO]; · iexact HO
  isplitl [H2]; · iexact H2
  iexact H15

end Cert.KernelIdeal.Own

end
-- ==== Proof.KernelIdeal.Branch.lean ====
/- The start of every grid step: the first step's branch, which fetches the gradient and leaves the clip coefficient, and
   the two bias corrections. -/
module

public import proofs.«01_k».proof.Proof.KernelIdeal.Step0
public import Idealize.ShloMosaic.Lib.VecWindow
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

/-! ## The scalars of a step -/

/-- The first moment's bias correction, by squaring and multiplying along the step count's bits. -/
def corr1 (v3 : Elt F .i32) : FVec F S1x1 .f32 :=
  let v71 := k0_pay816 (F := F) k0_pay810
  let v76 := k0_pay817 (F := F) v3 (k0_pay809 v3) k0_pay810 (Scalar.shrsi v3 5#32)
  let v113 := k0_pay825 (F := F) v71
  let v112 := k0_pay824 (F := F) v3 v71 v76
  k0_pay834 (F := F) v3 (k0_pay832 v3 v112 v113 (Scalar.andi (Scalar.shrsi v3 18#32) 1#32) 1#32) (k0_pay833 v113) (Scalar.shrsi v3 25#32)

/-- The step size over the second moment's root, with the two bias corrections. -/
def rootGain (v3 : Elt F .i32) : FVec F S1x1 .f32 :=
  let v230 := k0_pay842 (F := F) k0_pay836
  let v235 := k0_pay843 (F := F) v3 k0_pay835 k0_pay836 (Scalar.shrsi v3 0#32)
  let v271 := k0_pay850 (F := F) v3 v230 v235
  let v272 := k0_pay851 (F := F) v230
  let v313 := k0_pay858 (F := F) v3 v271 v272 (Scalar.andi (Scalar.shrsi v3 13#32) 1#32) 1#32
  let v314 := k0_pay859 (F := F) v272
  k0_pay868 (F := F) v3 (corr1 v3) (k0_pay865 v314) (k0_pay866 v3 v313 v314 (Scalar.shrsi v3 20#32))

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)

section

variable (f3 : BufTy.Contents (Elt F) arg3.view.ty) (f14 : BufTy.Contents (Elt F) arg14.view.ty)

/-- The transfers' semaphores, all at zero. -/
abbrev cells : sProp 𝕄G := bigSep (Finset.univ : Finset (Fin 44)) fun j => semVal ((c : Thread nD τ), SemLoc.dma (cell arg16 j)) 0

/-- Both buffers whole and the semaphores at zero are the windows idle, -/
theorem all_idle :
    iprop((arg3.view.loc (c : Thread nD τ) ↦[arg3.view.set]{fullShare} f3) ∗ (arg14.view.loc (c : Thread nD τ) ↦[arg14.view.set]{fullShare} f14) ∗ cells (F := F) c arg16)
      = (bigSep (Finset.univ : Finset (Fin 44)) fun j => idle c arg3 arg14 arg16 f3 f14 j : sProp 𝕄G) := by
  rw [pts_rows, pts_rows]
  refine Eq.symm ?_
  refine (bigSep_sep _ _ _).trans ?_
  exact congrArg _ (bigSep_sep _ _ _)

/-- before the first start -/
theorem to_started : iprop((arg3.view.loc (c : Thread nD τ) ↦[arg3.view.set]{fullShare} f3) ∗ (arg14.view.loc (c : Thread nD τ) ↦[arg14.view.set]{fullShare} f14) ∗ cells (F := F) c arg16)
    ⊢ (started c arg3 arg14 harg14 arg16 f3 f14 0 : sProp 𝕄G) :=
  le_of_eq ((all_idle c arg3 arg14 arg16 f3 f14).trans (bigSep_congr fun j _ => by rw [if_neg (Nat.not_lt_zero _)]))

/-- and after the last wait. -/
theorem of_waited : (waited c arg3 arg14 harg14 arg16 f3 44 : sProp 𝕄G)
    ⊢ iprop((arg3.view.loc (c : Thread nD τ) ↦[arg3.view.set]{fullShare} f3) ∗ (arg14.view.loc (c : Thread nD τ) ↦[arg14.view.set]{fullShare} landed arg3 arg14 harg14 f3) ∗ cells (F := F) c arg16) :=
  le_of_eq ((bigSep_congr fun j _ => by rw [if_pos j.isLt]).trans (all_idle c arg3 arg14 arg16 f3 (landed arg3 arg14 harg14 f3)).symm)

end

/-! ## The first part of every step -/

variable (X1 : BufTy.Contents (Elt F) arg1.view.ty) (X2 : BufTy.Contents (Elt F) arg2.view.ty) (f3 : BufTy.Contents (Elt F) arg3.view.ty)
  (X14 : BufTy.Contents (Elt F) arg14.view.ty) (X15 : BufTy.Contents (Elt F) arg15.view.ty)

/-- What a step's first part works on. -/
abbrev Front (f14 : BufTy.Contents (Elt F) arg14.view.ty) (f15 : BufTy.Contents (Elt F) arg15.view.ty) : sProp 𝕄G :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} f3) ∗ (arg14.view.loc (c : Thread nD τ) ↦[arg14.view.set]{fullShare} f14)
    ∗ (arg15.view.loc (c : Thread nD τ) ↦[arg15.view.set]{fullShare} f15) ∗ cells (F := F) c arg16 ∗ (∃ W, owes (c : Thread nD τ) 0 W))

/-- What a step's first part hands on. -/
abbrev frontOut (v3 : Elt F .i32) : (Σ' (arg0 : BitVec 32) (v3 : Elt F .i32) (v34 : FVec F S1x1 .f32) (v35 : FVec F S1x1 .f32), BitVec 32) :=
  ⟨BitVec.ofNat 32 (i 0).val, v3, k0_pay809 v3, k0_pay810 (F := F), Scalar.shrsi v3 5#32⟩

/-- A step that is not the first does nothing there. -/
theorem front_later (hc : ¬k0_cond1 i = 1#1) {Q : (Σ' (arg0 : BitVec 32) (v3 : Elt F .i32) (v34 : FVec F S1x1 .f32) (v35 : FVec F S1x1 .f32), BitVec 32) → sProp 𝕄G} :
    Front c arg1 arg2 arg3 arg14 arg15 arg16 X1 X2 f3 X14 X15
      ⊢ iprop((Front c arg1 arg2 arg3 arg14 arg15 arg16 X1 X2 f3 X14 X15 -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part137_eq_skeleton]
  unfold k0_part137_skel
  iintro ⟨H1, H2, H3, H14, H15, HS, HO⟩ Hk
  rw [dif_neg hc]
  simp only [wp_bind]
  unfold smemLoad smemLoadElt
  sl_step
  sl_step
  sl_step
  iapply Hk
  isplitl [H1]; · iexact H1
  isplitl [H2]; · iexact H2
  isplitl [H3]; · iexact H3
  isplitl [H14]; · iexact H14
  isplitl [H15]; · iexact H15
  isplitl [HS]; · iexact HS
  iexact HO

/-- The clip coefficient the first step leaves, in every lane. -/
def coefVec (k0_h1 : k0_cond1 i = 1#1) : FVec F S8x128 .f32 :=
  k0_pay803 (k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 (word arg2 X2) 44))

omit [FloatOps F] in
/-- A store of the whole coefficient buffer leaves the vector stored. -/
theorem stored_whole (w : Vec F S8x128 .f32) :
    (((arg15.access (Rect.unit (s := S8x128) ![0, 0] S8x128.size inb_S8x128_S8x128_0_0)).loc (c : Thread nD τ) ↦[arg15.view.set]{fullShare}
        (arg15.access (Rect.unit (s := S8x128) ![0, 0] S8x128.size inb_S8x128_S8x128_0_0)).write (Elt F) X15 w Finset.univ : sProp 𝕄G))
      ⊢ (arg15.view.loc (c : Thread nD τ) ↦[arg15.view.set]{fullShare} harg15.unread w) :=
  le_of_eq (congrArg (fun f => (arg15.view.loc (c : Thread nD τ) ↦[arg15.view.set]{fullShare} f : sProp 𝕄G))
    (harg15.eq_unread (View.read_writes_full arg15.view X15 inb_S8x128_S8x128_0_0 w [])))

/-- The first step fetches the gradient and leaves the coefficient. -/
theorem front_first (hc : k0_cond1 i = 1#1) {Q : (Σ' (arg0 : BitVec 32) (v3 : Elt F .i32) (v34 : FVec F S1x1 .f32) (v35 : FVec F S1x1 .f32), BitVec 32) → sProp 𝕄G} :
    Front c arg1 arg2 arg3 arg14 arg15 arg16 X1 X2 f3 X14 X15
      ⊢ iprop((Front c arg1 arg2 arg3 arg14 arg15 arg16 X1 X2 f3 (landed arg3 arg14 harg14 f3)
            (harg15.unread (coefVec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X2 f3 hc)) -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q) := by
  rw [k0_part137_eq_skeleton]
  unfold k0_part137_skel
  rw [dif_pos hc]
  unfold coefVec
  iintro ⟨H1, H2, H3, H14, H15, HS, ⟨%W, HO⟩⟩ Hk
  ihave HP := (to_started c arg3 arg14 harg14 arg16 f3 X14) $$ [H3 H14 HS]
  · isplitl [H3]; · iexact H3
    isplitl [H14]; · iexact H14
    iexact HS
  simp only [wp_bind]
  iapply (part10_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 X14 hc W X2 X15) $$ [HP HO H2 H15]
  · isplitl [HP]; · iexact HP
    isplitl [HO]; · iexact HO
    isplitl [H2]; · iexact H2
    iexact H15
  iintro %v ⟨HP, HO, H2, H15⟩
  ihave HP := (of_waited c arg3 arg14 harg14 arg16 f3) $$ HP
  icases HP with ⟨H3, H14, HS⟩
  unfold Prog.lift
  sl_step
  sl_step
  unfold smemLoad smemLoadElt
  sl_step
  sl_step
  sl_step
  ihave H15 := (stored_whole c arg15 harg15 X15 (k0_pay803 (k0_pay10 (word arg2 X2) (squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 hc (word arg2 X2) 44)))) $$ H15
  iapply Hk
  isplitl [H1]; · iexact H1
  isplitl [H2]; · iexact H2
  isplitl [H3]; · iexact H3
  isplitl [H14]; · iexact H14
  isplitl [H15]; · iexact H15
  isplitl [HS]; · iexact HS
  iexact HO

end Cert.KernelIdeal.Own

end
-- ==== Proof.KernelIdeal.Chunks.lean ====
/- The chunk loop of one grid step and its invariant: what one trip writes into the five outputs, and the pieces of the trips before it. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

abbrev Trip_k0_t3 (c : Dev nD) (arg4 : Memref sig .tc .vmem S64x8192 .f32) (arg5 : Memref sig .tc .vmem S64x8192 .i8) (arg6 : Memref sig .tc .vmem S64x64 .f32) (arg7 : Memref sig .tc .vmem S64x8192 .i8) (arg8 : Memref sig .tc .vmem S64x64 .f32) (arg14 : Memref sig .tc .vmem S2816x8192 .bf16) (arg9 : Memref sig .tc .vmem S64x8192 .f32) (arg10 : Memref sig .tc .vmem S64x8192 .i8) (arg11 : Memref sig .tc .vmem S64x64 .f32) (arg12 : Memref sig .tc .vmem S64x8192 .i8) (arg13 : Memref sig .tc .vmem S64x64 .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

@[irreducible] def trip_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) :
    Σ' (L_arg9 : List (View.Piece (Elt F) S64x8192 .f32)) (L_arg10 : List (View.Piece (Elt F) S64x8192 .i8)) (L_arg11 : List (View.Piece (Elt F) S64x64 .f32)) (L_arg12 : List (View.Piece (Elt F) S64x8192 .i8)) , { L_arg13 : List (View.Piece (Elt F) S64x64 .f32) // ∀ (E : Set ℕ) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      Trip_k0_t3 (F := F) c arg4 arg5 arg6 arg7 arg8 arg14 arg9 arg10 arg11 arg12 arg13 X_arg4 X_arg5 X_arg6 X_arg7 X_arg8 X_arg14 f_arg9 f_arg10 f_arg11 f_arg12 f_arg13
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 k PUnit.unit)
          (fun _ => Trip_k0_t3 (F := F) c arg4 arg5 arg6 arg7 arg8 arg14 arg9 arg10 arg11 arg12 arg13 X_arg4 X_arg5 X_arg6 X_arg7 X_arg8 X_arg14 (arg9.view.writes (Elt F) f_arg9 L_arg9) (arg10.view.writes (Elt F) f_arg10 L_arg10) (arg11.view.writes (Elt F) f_arg11 L_arg11) (arg12.view.writes (Elt F) f_arg12 L_arg12) (arg13.view.writes (Elt F) f_arg13 L_arg13)) } := by
  have hk : k.val < 2 := Nat.lt_of_lt_of_le k.isLt k0_t3_abs.2.1
  refine ⟨?_, ?_, ?_, ?_, ?_, fun E f_arg9 f_arg10 f_arg11 f_arg12 f_arg13 => ?run⟩
  case run =>
    unfold k0_t3_body
    iintro ⟨HR_arg4, HR_arg5, HR_arg6, HR_arg7, HR_arg8, HR_arg14, HW_arg9, HW_arg10, HW_arg11, HW_arg12, HW_arg13⟩
    sl_exec
    sl_step
    sl_close

abbrev tripL_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) : List (View.Piece (Elt F) S64x8192 .f32) × List (View.Piece (Elt F) S64x8192 .i8) × List (View.Piece (Elt F) S64x64 .f32) × List (View.Piece (Elt F) S64x8192 .i8) × List (View.Piece (Elt F) S64x64 .f32) :=
  ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1, (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.1)

@[irreducible] def pb_k0_t3Step (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : ℕ) (prev : List (View.Piece (Elt F) S64x8192 .f32) × List (View.Piece (Elt F) S64x8192 .i8) × List (View.Piece (Elt F) S64x64 .f32) × List (View.Piece (Elt F) S64x8192 .i8) × List (View.Piece (Elt F) S64x64 .f32)) : List (View.Piece (Elt F) S64x8192 .f32) × List (View.Piece (Elt F) S64x8192 .i8) × List (View.Piece (Elt F) S64x64 .f32) × List (View.Piece (Elt F) S64x8192 .i8) × List (View.Piece (Elt F) S64x64 .f32) :=
  if h : k < k0_t3_loop.trips then
    ((tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).1 ++ prev.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.1 ++ prev.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.1 ++ prev.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.2.1 ++ prev.2.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 ⟨k, h⟩).2.2.2.2 ++ prev.2.2.2.2)
  else prev

def pb_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) : ℕ → List (View.Piece (Elt F) S64x8192 .f32) × List (View.Piece (Elt F) S64x8192 .i8) × List (View.Piece (Elt F) S64x64 .f32) × List (View.Piece (Elt F) S64x8192 .i8) × List (View.Piece (Elt F) S64x64 .f32)
  | 0 => ([], [], [], [], [])
  | k + 1 => pb_k0_t3Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k)

theorem pb_k0_t3_succ (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips) :
    pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 (k.val + 1)
      = ((tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.2.1, (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2 ++ (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k.val).2.2.2.2) := by
  rw [pb_k0_t3.eq_2]; unfold pb_k0_t3Step; exact dif_pos k.isLt

abbrev inv_k0_t3 (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg14.view.loc (c : Thread nD τ) ↦[arg14.view.set]{fullShare} X_arg14) ∗ (∃ f, (arg9.view.loc (c : Thread nD τ) ↦[arg9.view.set]{fullShare} f) ∗ ⌜f = arg9.view.writes (Elt F) G_arg9 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).1⌝) ∗ (∃ f, (arg10.view.loc (c : Thread nD τ) ↦[arg10.view.set]{fullShare} f) ∗ ⌜f = arg10.view.writes (Elt F) G_arg10 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1⌝) ∗ (∃ f, (arg11.view.loc (c : Thread nD τ) ↦[arg11.view.set]{fullShare} f) ∗ ⌜f = arg11.view.writes (Elt F) G_arg11 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1⌝) ∗ (∃ f, (arg12.view.loc (c : Thread nD τ) ↦[arg12.view.set]{fullShare} f) ∗ ⌜f = arg12.view.writes (Elt F) G_arg12 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1⌝) ∗ (∃ f, (arg13.view.loc (c : Thread nD τ) ↦[arg13.view.set]{fullShare} f) ∗ ⌜f = arg13.view.writes (Elt F) G_arg13 (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2⌝))

set_option warn.classDefReducibility false in
@[sl_loop] def loopInv_k0_t3 (𝒱 : Variants) (c : Dev nD) (bd : Option 𝒱.V) (E : Set ℕ) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 where
  inv := inv_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 G_arg9 G_arg10 G_arg11 G_arg12 G_arg13
  step k acc := by
    iintro ⟨HR_arg4, HR_arg5, HR_arg6, HR_arg7, HR_arg8, HR_arg14, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg4 HR_arg5 HR_arg6 HR_arg7 HR_arg8 HR_arg14 HW_arg9 HW_arg10 HW_arg11 HW_arg12 HW_arg13]
    · iapply ((trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.2 E f_arg9 f_arg10 f_arg11 f_arg12 f_arg13)
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg14]; · iexact HR_arg14
      isplitl [HW_arg9]; · iexact HW_arg9
      isplitl [HW_arg10]; · iexact HW_arg10
      isplitl [HW_arg11]; · iexact HW_arg11
      isplitl [HW_arg12]; · iexact HW_arg12
      iexact HW_arg13
    · iintro %_ ⟨HR_arg4, HR_arg5, HR_arg6, HR_arg7, HR_arg8, HR_arg14, HW_arg9, HW_arg10, HW_arg11, HW_arg12, HW_arg13⟩
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg14]; · iexact HR_arg14
      rw [pb_k0_t3_succ]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      iexists _; isplitl [HW_arg13]; · iexact HW_arg13
      ipureintro; rw [h_arg13, ← View.writes_append]

end Cert.KernelIdeal.Own

end
-- ==== Proof.KernelIdeal.Body.lean ====
/- A whole grid step: its first part, the bias corrections, and the two chunks of rows. -/
module

public import proofs.«01_k».proof.Proof.KernelIdeal.Branch
public import proofs.«01_k».proof.Proof.KernelIdeal.Chunks
public import Idealize.ShloMosaic.Lib.Exec
public import Idealize.ShloMosaic.Lib.Tactic
public import Idealize.ShloMosaic.Lib.Transfers
public import Idealize.ShloMosaic.Lib.Pipeline.FrameBody

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (X1 : BufTy.Contents (Elt F) arg1.view.ty) (X2 : BufTy.Contents (Elt F) arg2.view.ty) (f3 : BufTy.Contents (Elt F) arg3.view.ty)
  (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
  (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
  (X14 g14 : BufTy.Contents (Elt F) arg14.view.ty) (X15 g15 : BufTy.Contents (Elt F) arg15.view.ty)

/-- The coefficient a step reads out of its scratch. -/
abbrev coefWord (g15 : BufTy.Contents (Elt F) arg15.view.ty) : Vec F S1x1 .f32 :=
  arg15.view.readAt (Elt F) (Rect.unit (s := S8x128) ![0, 0] S1x1.size inb_S8x128_S1x1_0_0).toLoadRect g15

/-- What a step's two chunks store into the five results' buffers. -/
abbrev pieces : List (View.Piece (Elt F) S64x8192 .f32) × List (View.Piece (Elt F) S64x8192 .i8) × List (View.Piece (Elt F) S64x64 .f32) × List (View.Piece (Elt F) S64x8192 .i8) × List (View.Piece (Elt F) S64x64 .f32) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (BitVec.ofNat 32 (i 0).val) (corr1 (word arg1 X1)) (k0_pay867 (coefWord arg15 g15)) (rootGain (word arg1 X1)) (Scalar.ofBits .f32 0x3727C5AC#32) X4 X5 X6 X7 X8 g14 2

set_option maxRecDepth 16384 in
/-- A whole step, given what its first part does. -/
theorem step_run
    (hfront : ∀ Q : (Σ' (arg0 : BitVec 32) (v3 : Elt F .i32) (v34 : FVec F S1x1 .f32) (v35 : FVec F S1x1 .f32), BitVec 32) → sProp 𝕄G,
      Front c arg1 arg2 arg3 arg14 arg15 arg16 X1 X2 f3 X14 X15
      ⊢ iprop((Front c arg1 arg2 arg3 arg14 arg15 arg16 X1 X2 f3 g14 g15 -∗ Q (frontOut i (word arg1 X1)))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q))
    {K : PUnit → sProp 𝕄G} :
    iprop(Front c arg1 arg2 arg3 arg14 arg15 arg16 X1 X2 f3 X14 X15 ∗ ((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))
      ⊢ iprop(((Front c arg1 arg2 arg3 arg14 arg15 arg16 X1 X2 f3 g14 g15 ∗ ((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)) ∗ (arg9.view.loc (c : Thread nD τ) ↦[arg9.view.set]{fullShare} arg9.view.writes (Elt F) f9 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).1) ∗ (arg10.view.loc (c : Thread nD τ) ↦[arg10.view.set]{fullShare} arg10.view.writes (Elt F) f10 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.1) ∗ (arg11.view.loc (c : Thread nD τ) ↦[arg11.view.set]{fullShare} arg11.view.writes (Elt F) f11 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.1) ∗ (arg12.view.loc (c : Thread nD τ) ↦[arg12.view.set]{fullShare} arg12.view.writes (Elt F) f12 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.2.1) ∗ (arg13.view.loc (c : Thread nD τ) ↦[arg13.view.set]{fullShare} arg13.view.writes (Elt F) f13 (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X4 X5 X6 X7 X8 g14 g15).2.2.2.2)) -∗ K ⟨⟩)
        -∗ wp frame (wpE (defs₀ (F := F)) Variants.none (c : Thread nD τ) none) Set.univ (cc0_adamw_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K) := by
  simp only [cc0_adamw_int8_eq_skeleton]
  unfold cc0_adamw_int8_skel
  rw [wp_bind, k0_part146_eq_skeleton]
  unfold k0_part146_skel
  rw [wp_bind]
  iintro ⟨HF, ⟨H4, H5, H6, H7, H8⟩, H9, H10, H11, H12, H13⟩ Hk
  iapply (hfront _) $$ HF
  iintro ⟨H1, H2, H3, H14, H15, HS, HO⟩
  simp only [k0_part138_eq_skeleton, k0_part139_eq_skeleton, k0_part140_eq_skeleton, k0_part141_eq_skeleton, k0_part142_eq_skeleton, k0_part143_eq_skeleton, k0_part144_eq_skeleton, k0_part145_eq_skeleton]
  unfold k0_part138_skel k0_part139_skel k0_part140_skel k0_part141_skel k0_part142_skel k0_part143_skel k0_part144_skel k0_part145_skel
  simp only [wp_bind]
  iterate 8 sl_step
  unfold Prog.lift
  sl_step
  sl_step
  sl_step
  unfold pieces rootGain corr1
  dsimp only
  iapply (Scf.wp_for frame (wpE (defs₀ (F := F)) Variants.none (c : Thread nD τ) none) Set.univ k0_t3_loop.lb k0_t3_loop.ub k0_t3_loop.st
    k0_t3_ok _ _ (inv_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _ _ _ _ _ X4 X5 X6 X7 X8 g14 f9 f10 f11 f12 f13)
    (loopInv_k0_t3 (F := F) Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _ _ _ _ _ X4 X5 X6 X7 X8 g14 f9 f10 f11 f12 f13).step)
  isplitl [H4 H5 H6 H7 H8 H14 H9 H10 H11 H12 H13]
  · isplitl [H4]; · iexact H4
    isplitl [H5]; · iexact H5
    isplitl [H6]; · iexact H6
    isplitl [H7]; · iexact H7
    isplitl [H8]; · iexact H8
    isplitl [H14]; · iexact H14
    isplitl [H9]; · iexists _; isplitl [H9]; · iexact H9
                    ipureintro; rfl
    isplitl [H10]; · iexists _; isplitl [H10]; · iexact H10
                     ipureintro; rfl
    isplitl [H11]; · iexists _; isplitl [H11]; · iexact H11
                     ipureintro; rfl
    isplitl [H12]; · iexists _; isplitl [H12]; · iexact H12
                     ipureintro; rfl
    iexists _; isplitl [H13]; · iexact H13
    ipureintro; rfl
  have ht : Scf.trips k0_t3_loop.lb k0_t3_loop.ub k0_t3_loop.st = 2 := by decide
  rw [ht]
  iintro %u ⟨H4, H5, H6, H7, H8, H14, ⟨%h9, H9, %e9⟩, ⟨%h10, H10, %e10⟩, ⟨%h11, H11, %e11⟩, ⟨%h12, H12, %e12⟩, ⟨%h13, H13, %e13⟩⟩
  subst e9 e10 e11 e12 e13
  sl_step
  iapply Hk
  isplitl [H1 H2 H3 H14 H15 HS HO]
  · isplitl [H1]; · iexact H1
    isplitl [H2]; · iexact H2
    isplitl [H3]; · iexact H3
    isplitl [H14]; · iexact H14
    isplitl [H15]; · iexact H15
    isplitl [HS]; · iexact HS
    iexact HO
  isplitl [H4 H5 H6 H7 H8]
  · isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  iexact H13

end Cert.KernelIdeal.Own

end
-- ==== Proof.KernelIdeal.Owned.lean ====
/- A whole step with its windows owned at their blocks. -/
module

public import proofs.«01_k».proof.Proof.KernelIdeal.Body

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44)
variable (x1 : Vec F S1 .i32) (x2 : Vec F S1 .f32) (x4 : Vec F S64x8192 .f32) (x5 : Vec F S64x8192 .i8) (x6 : Vec F S64x64 .f32) (x7 : Vec F S64x8192 .i8) (x8 : Vec F S64x64 .f32)
variable (f3 : BufTy.Contents (Elt F) arg3.view.ty) (X14 g14 : BufTy.Contents (Elt F) arg14.view.ty) (X15 g15 : BufTy.Contents (Elt F) arg15.view.ty)

/-- What a step's two chunks store, from what the input windows hold. -/
abbrev stored : List (View.Piece (Elt F) S64x8192 .f32) × List (View.Piece (Elt F) S64x8192 .i8) × List (View.Piece (Elt F) S64x64 .f32) × List (View.Piece (Elt F) S64x8192 .i8) × List (View.Piece (Elt F) S64x64 .f32) :=
  pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (harg1.unread (Val := Elt F) x1) (harg4.unread (Val := Elt F) x4) (harg5.unread (Val := Elt F) x5) (harg6.unread (Val := Elt F) x6) (harg7.unread (Val := Elt F) x7) (harg8.unread (Val := Elt F) x8) g14 g15

/-- A whole step, its windows owned at their blocks. -/
theorem step_owned
    (hfront : ∀ Q : (Σ' (arg0 : BitVec 32) (v3 : Elt F .i32) (v34 : FVec F S1x1 .f32) (v35 : FVec F S1x1 .f32), BitVec 32) → sProp 𝕄G,
      Front c arg1 arg2 arg3 arg14 arg15 arg16 (harg1.unread (Val := Elt F) x1) (harg2.unread (Val := Elt F) x2) f3 X14 X15
      ⊢ iprop((Front c arg1 arg2 arg3 arg14 arg15 arg16 (harg1.unread (Val := Elt F) x1) (harg2.unread (Val := Elt F) x2) f3 g14 g15 -∗ Q (frontOut i (word arg1 (harg1.unread (Val := Elt F) x1))))
        -∗ wp frame (wpE (defs₀ (F := F)) Variants.none (c : Thread nD τ) none) Set.univ (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) Q))
    {K : PUnit → sProp 𝕄G} :
    iprop((owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ ((arg3.view.loc (c : Thread nD τ) ↦[arg3.view.set]{fullShare} f3) ∗ (arg14.view.loc (c : Thread nD τ) ↦[arg14.view.set]{fullShare} X14) ∗ (arg15.view.loc (c : Thread nD τ) ↦[arg15.view.set]{fullShare} X15) ∗ cells (F := F) c arg16 ∗ (∃ W, owes (c : Thread nD τ) 0 W))
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
      ⊢ iprop((((owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8) ∗ ((arg3.view.loc (c : Thread nD τ) ↦[arg3.view.set]{fullShare} f3) ∗ (arg14.view.loc (c : Thread nD τ) ↦[arg14.view.set]{fullShare} g14) ∗ (arg15.view.loc (c : Thread nD τ) ↦[arg15.view.set]{fullShare} g15) ∗ cells (F := F) c arg16 ∗ (∃ W, owes (c : Thread nD τ) 0 W))
        ∗ (∃ f, arg9.view.loc (c : Thread nD τ) ↦[arg9.view.set]{fullShare} arg9.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).1) ∗ (∃ f, arg10.view.loc (c : Thread nD τ) ↦[arg10.view.set]{fullShare} arg10.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.1) ∗ (∃ f, arg11.view.loc (c : Thread nD τ) ↦[arg11.view.set]{fullShare} arg11.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.1) ∗ (∃ f, arg12.view.loc (c : Thread nD τ) ↦[arg12.view.set]{fullShare} arg12.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.2.1) ∗ (∃ f, arg13.view.loc (c : Thread nD τ) ↦[arg13.view.set]{fullShare} arg13.view.writes (Elt F) f (stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 x1 x4 x5 x6 x7 x8 g14 g15).2.2.2.2)) -∗ K ⟨⟩)
        -∗ wp frame (wpE (defs₀ (F := F)) Variants.none (c : Thread nD τ) none) Set.univ (cc0_adamw_int8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) K) := by
  unfold owns
  iintro ⟨⟨⟨%e1, %h1, H1⟩, ⟨%e2, %h2, H2⟩, ⟨%e4, %h4, H4⟩, ⟨%e5, %h5, H5⟩, ⟨%e6, %h6, H6⟩, ⟨%e7, %h7, H7⟩, ⟨%e8, %h8, H8⟩⟩, ⟨H3, H14, H15, HS, HO⟩, ⟨%d9, %f9, -, H9⟩, ⟨%d10, %f10, -, H10⟩, ⟨%d11, %f11, -, H11⟩, ⟨%d12, %f12, -, H12⟩, ⟨%d13, %f13, -, H13⟩⟩ Hk
  obtain rfl := harg1.eq_unread h1
  obtain rfl := harg2.eq_unread h2
  obtain rfl := harg4.eq_unread h4
  obtain rfl := harg5.eq_unread h5
  obtain rfl := harg6.eq_unread h6
  obtain rfl := harg7.eq_unread h7
  obtain rfl := harg8.eq_unread h8
  iapply (step_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (harg1.unread (Val := Elt F) x1) (harg2.unread (Val := Elt F) x2) f3 (harg4.unread (Val := Elt F) x4) (harg5.unread (Val := Elt F) x5) (harg6.unread (Val := Elt F) x6) (harg7.unread (Val := Elt F) x7) (harg8.unread (Val := Elt F) x8) f9 f10 f11 f12 f13 X14 g14 X15 g15 hfront) $$ [H1 H2 H3 H14 H15 HS HO H4 H5 H6 H7 H8 H9 H10 H11 H12 H13]
  · isplitl [H1 H2 H3 H14 H15 HS HO]
    · isplitl [H1]; · iexact H1
      isplitl [H2]; · iexact H2
      isplitl [H3]; · iexact H3
      isplitl [H14]; · iexact H14
      isplitl [H15]; · iexact H15
      isplitl [HS]; · iexact HS
      iexact HO
    isplitl [H4 H5 H6 H7 H8]
    · isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    iexact H13
  iintro ⟨⟨H1, H2, H3, H14, H15, HS, HO⟩, ⟨H4, H5, H6, H7, H8⟩, H9, H10, H11, H12, H13⟩
  iapply Hk
  isplitl [H1 H2 H4 H5 H6 H7 H8]
  · isplitl [H1]; · iexists _; isplitr; swap; iexact H1; ipureintro; exact harg1.read_unread _
    isplitl [H2]; · iexists _; isplitr; swap; iexact H2; ipureintro; exact harg2.read_unread _
    isplitl [H4]; · iexists _; isplitr; swap; iexact H4; ipureintro; exact harg4.read_unread _
    isplitl [H5]; · iexists _; isplitr; swap; iexact H5; ipureintro; exact harg5.read_unread _
    isplitl [H6]; · iexists _; isplitr; swap; iexact H6; ipureintro; exact harg6.read_unread _
    isplitl [H7]; · iexists _; isplitr; swap; iexact H7; ipureintro; exact harg7.read_unread _
    iexists _; isplitr; swap; iexact H8; ipureintro; exact harg8.read_unread _
  isplitl [H3 H14 H15 HS HO]
  · isplitl [H3]; · iexact H3
    isplitl [H14]; · iexact H14
    isplitl [H15]; · iexact H15
    isplitl [HS]; · iexact HS
    iexact HO
  isplitl [H9]; · iexists _; iexact H9
  isplitl [H10]; · iexists _; iexact H10
  isplitl [H11]; · iexists _; iexact H11
  isplitl [H12]; · iexists _; iexact H12
  iexists _; iexact H13

end Cert.KernelIdeal.Own

end
-- ==== Proof.KernelIdeal.Runs.lean ====
/- What the launch of the kernel's region needs: the buffers the region finds, the windows' blocks, the branch condition
   at each grid point, the transfers' semaphores, and the invariant a launch hands over. -/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.FrameBody
public import Idealize.ShloMosaic.Lib.WordCmp

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer the two host reshapes do not write is found as launched. -/
theorem V_of (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the one found and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 2 rfl).trans ((hA c 2).trans (V_of m c main_arg0 (by decide) (by decide))),
      ((h c).2 main_arg1 (Pipeline.mem_restRefs_of main_arg1 (by decide) (by decide))).trans (V_of m c main_arg1 (by decide) (by decide)),
      (Pipeline.RDat.FramePost.arr_in h c 3 rfl).trans ((hA c 3).trans (V_of m c main_arg2 (by decide) (by decide))),
      (Pipeline.RDat.FramePost.arr_in h c 4 rfl).trans ((hA c 4).trans (V_of m c main_arg3 (by decide) (by decide))),
      (Pipeline.RDat.FramePost.arr_in h c 5 rfl).trans ((hA c 5).trans (V_of m c main_arg4 (by decide) (by decide))),
      (Pipeline.RDat.FramePost.arr_in h c 6 rfl).trans ((hA c 6).trans (V_of m c main_arg5 (by decide) (by decide))),
      ((h c).2 main_arg6 (Pipeline.mem_restRefs_of main_arg6 (by decide) (by decide))).trans (V_of m c main_arg6 (by decide) (by decide)),
      ((h c).2 main_arg7 (Pipeline.mem_restRefs_of main_arg7 (by decide) (by decide))).trans (V_of m c main_arg7 (by decide) (by decide))⟩) h

/-! ## The body's branch conditions -/

/-- The condition of the first step. -/
abbrev cond0_0 (i : grid0.Coords) : Prop := k0_cond1 i = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, k0_cond1, e0]
    word_cmp
   : ∀ t : Fin grid0.N, cond0_0 (grid0.coords t) ↔ t.val % 44 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x8192 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8192 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x8192 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x8192 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x64 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2816x8192 .bf16 := Memref.whole cc0_scratch0
abbrev scM0_1 : Memref sig .tc .vmem S8x128 .f32 := Memref.whole cc0_scratch1
/-- The operands left in HBM that the body copies into scratch itself, whole. -/
abbrev hbM0_0 : Memref sig .tc .hbm S2816x8192 .bf16 := Memref.whole main_arg1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄G :=
  M.view.loc (c : Thread nD τ) ↦{fullShare} f

/-- The transfers' semaphores, as the kernel's own. -/
abbrev osem0 : Fin 44 → SemLoc sig := fun j => SemLoc.dma (cell cc0_scratch2 j)
theorem ownSemFacts0 : Pipeline.OwnSemFacts spec0 osem0 := by decide
/-- The HBM operand the body moves. -/
def H0 : Finset (Ref sig .tc) := {main_arg1}
theorem H0_sub : H0 ⊆ Pipeline.restRefs sig spec0 := by decide

/-- The launch's invariant, conjunct by conjunct. -/
theorem PhiD0_eq (c : Dev nD) :
    (Pipeline.ΦD osem0 spec0 H0 (V m) c : sProp 𝕄G)
      = iprop(((∃ d, owns (c : Thread nD τ) scM0_0 fullShare d) ∗ (∃ d, owns (c : Thread nD τ) scM0_1 fullShare d)) ∗ (∃ r, prngReg c r)
        ∗ cells (F := F) c cc0_scratch2 ∗ owns (c : Thread nD τ) hbM0_0 fullShare (V m c main_arg1)) := by
  rw [Pipeline.ΦD_eq, scopedRest0_eq, BI.bigSep_eq_bigSepL_of_eq [main_arg1] (by decide) (by decide)]; simp only [scM0_0, scM0_1, hbM0_0, owns_whole]; try rfl

end Cert.KernelIdeal.Own

end
-- ==== Proof.KernelIdeal.Carry.lean ====
/- The step at any grid point, from one point's invariant to the next. -/
module

public import proofs.«01_k».proof.Proof.KernelIdeal.Owned
public import proofs.«01_k».proof.Proof.KernelIdeal.Runs

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (m : (ℓ : Loc nD τ sig) → Buf (Elt F) ℓ) (ρ : Dev nD → PrngReg)

/-! ## The scratch the steps carry -/

theorem pos0 : 0 < cfg0.N := by rw [show cfg0.N = 44 from N_0]; decide
/-- The first grid point. -/
abbrev first : Fin cfg0.N := ⟨0, pos0⟩

/-- What the gradient's scratch holds once the transfers have landed. -/
abbrev grad0 (c : Dev nD) : BufTy.Contents (Elt F) scM0_0.view.ty := landed (F := F) hbM0_0 scM0_0 (Memref.isWhole_whole _) (V m c main_arg1)

/-- What the coefficient's scratch holds after the first step. -/
abbrev coef0 (c : Dev nD) : BufTy.Contents (Elt F) scM0_1.view.ty :=
  (Memref.isWhole_whole cc0_scratch1).unread (Val := Elt F) (coefVec c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 ((hs0_1 first).unread (Val := Elt F) (iblk m c 1 first)) (V m c main_arg1) ((hcond0_0 first).mpr rfl))

/-- What the steps after the first start from: the gradient in place and landed, the coefficient stored, the semaphores at zero. -/
def Kept (c : Dev nD) : sProp 𝕄G :=
  iprop((hbM0_0.view.loc (c : Thread nD τ) ↦[hbM0_0.view.set]{fullShare} (V m c main_arg1)) ∗ (scM0_0.view.loc (c : Thread nD τ) ↦[scM0_0.view.set]{fullShare} (grad0 m c)) ∗ (scM0_1.view.loc (c : Thread nD τ) ↦[scM0_1.view.set]{fullShare} (coef0 m c)) ∗ (∃ r, prngReg c r) ∗ cells (F := F) c cc0_scratch2)

/-- The region's invariant before position `n`: at first the launch's, afterwards `Kept`. -/
def PhiS (c : Dev nD) : (n : ℕ) → n ≤ cfg0.N → sProp 𝕄G
  | 0, _ => Pipeline.ΦD osem0 spec0 H0 (V m) c
  | _ + 1, _ => Kept m c

theorem PhiS_zero (c : Dev nD) (n : ℕ) (h : n ≤ cfg0.N) (hz : n = 0) : PhiS m c n h = Pipeline.ΦD osem0 spec0 H0 (V m) c := by
  subst hz; rfl
theorem PhiS_pos (c : Dev nD) (n : ℕ) (h : n ≤ cfg0.N) (hz : n ≠ 0) : PhiS m c n h = Kept m c := by
  cases n with
  | zero => exact absurd rfl hz
  | succ n => rfl

/-- What the step at point `t` stores into the results' buffers. -/
abbrev storedAt (c : Dev nD) (t : Fin cfg0.N) : List (View.Piece (Elt F) S64x8192 .f32) × List (View.Piece (Elt F) S64x8192 .i8) × List (View.Piece (Elt F) S64x64 .f32) × List (View.Piece (Elt F) S64x8192 .i8) × List (View.Piece (Elt F) S64x64 .f32) :=
  stored c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 (iblk m c 0 t) (iblk m c 2 t) (iblk m c 3 t) (iblk m c 4 t) (iblk m c 5 t) (iblk m c 6 t) (grad0 m c) (coef0 m c)

/-- A whole buffer owned is its points-to, at given contents -/
theorem whole_pts (c : Dev nD) (b : Ref sig .tc) (X : b.ty.Contents (Elt F)) :
    (owns (c : Thread nD τ) (Memref.whole b) fullShare X : sProp 𝕄G) = ((Memref.whole b).view.loc (c : Thread nD τ) ↦[(Memref.whole b).view.set]{fullShare} X) := by
  rw [owns_whole]; simp only [View.set_whole]
/-- and at some. -/
theorem exists_whole_pts (c : Dev nD) (b : Ref sig .tc) :
    (iprop(∃ X, owns (c : Thread nD τ) (Memref.whole b) fullShare X) : sProp 𝕄G) = iprop(∃ X, ((Memref.whole b).view.loc (c : Thread nD τ) ↦[(Memref.whole b).view.set]{fullShare} X)) :=
  congrArg _ (funext fun X => whole_pts c b X)

/-- The launch's invariant, the buffers by their contents. -/
theorem opened (c : Dev nD) : (Pipeline.ΦD osem0 spec0 H0 (V m) c : sProp 𝕄G)
    ⊢ iprop((∃ f, (scM0_0.view.loc (c : Thread nD τ) ↦[scM0_0.view.set]{fullShare} f)) ∗ (∃ f, (scM0_1.view.loc (c : Thread nD τ) ↦[scM0_1.view.set]{fullShare} f)) ∗ (∃ r, prngReg c r) ∗ cells (F := F) c cc0_scratch2 ∗ (hbM0_0.view.loc (c : Thread nD τ) ↦[hbM0_0.view.set]{fullShare} (V m c main_arg1))) := by
  rw [PhiD0_eq, whole_pts, show (iprop(∃ d, owns (c : Thread nD τ) scM0_0 fullShare d) : sProp 𝕄G) = _ from exists_whole_pts c cc0_scratch0,
    show (iprop(∃ d, owns (c : Thread nD τ) scM0_1 fullShare d) : sProp 𝕄G) = _ from exists_whole_pts c cc0_scratch1]
  iintro ⟨⟨H14, H15⟩, Hg, HS, H3⟩
  isplitl [H14]; · iexact H14
  isplitl [H15]; · iexact H15
  isplitl [Hg]; · iexact Hg
  isplitl [HS]; · iexact HS
  iexact H3

set_option maxHeartbeats 1600000 in
/-- The step at any point: from the invariant and the windows at their blocks to `Kept`, the windows as they were and the results' buffers as stored. -/
theorem step_at (c : Dev nD) (t : Fin cfg0.N) {K : PUnit → sProp 𝕄G} :
    iprop(PhiS m c t.val (Nat.le_of_lt t.isLt) ∗ (∃ W, owes (c : Thread nD τ) 0 W) ∗ (owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d))
      ⊢ iprop(((Kept m c ∗ (∃ W, owes (c : Thread nD τ) 0 W) ∗ (owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)) ∗ (∃ f, (ms0_7 t).view.loc (c : Thread nD τ) ↦[(ms0_7 t).view.set]{fullShare} (ms0_7 t).view.writes (Elt F) f (storedAt m c t).1) ∗ (∃ f, (ms0_8 t).view.loc (c : Thread nD τ) ↦[(ms0_8 t).view.set]{fullShare} (ms0_8 t).view.writes (Elt F) f (storedAt m c t).2.1) ∗ (∃ f, (ms0_9 t).view.loc (c : Thread nD τ) ↦[(ms0_9 t).view.set]{fullShare} (ms0_9 t).view.writes (Elt F) f (storedAt m c t).2.2.1) ∗ (∃ f, (ms0_10 t).view.loc (c : Thread nD τ) ↦[(ms0_10 t).view.set]{fullShare} (ms0_10 t).view.writes (Elt F) f (storedAt m c t).2.2.2.1) ∗ (∃ f, (ms0_11 t).view.loc (c : Thread nD τ) ↦[(ms0_11 t).view.set]{fullShare} (ms0_11 t).view.writes (Elt F) f (storedAt m c t).2.2.2.2)) -∗ K ⟨⟩)
        -∗ wp frame (wpE (defs₀ (F := F)) Variants.none c none) Set.univ (bodyAt0 t) K) := by
  unfold bodyAt0
  have hN : t.val < 44 := lt_of_lt_of_eq t.isLt (show cfg0.N = 44 from N_0)
  by_cases hz : t.val = 0
  · rw [PhiS_zero m c _ _ hz]
    obtain rfl : t = first := Fin.ext hz
    unfold Kept
    iintro ⟨HP, HO, HI, HX⟩ Hk
    ihave HP := (opened m c) $$ HP
    icases HP with ⟨⟨%f14, H14⟩, ⟨%f15, H15⟩, Hg, HS, H3⟩
    iapply (step_owned c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 (iblk m c 0 first) (iblk m c 1 first) (iblk m c 2 first) (iblk m c 3 first) (iblk m c 4 first) (iblk m c 5 first) (iblk m c 6 first) (V m c main_arg1) f14 (grad0 m c) f15 (coef0 m c) (fun Q => front_first c (grid0.coords first) (ms0_0 first) (hs0_0 first) (ms0_1 first) (hs0_1 first) hbM0_0 (Memref.isWhole_whole _) (ms0_2 first) (hs0_2 first) (ms0_3 first) (hs0_3 first) (ms0_4 first) (hs0_4 first) (ms0_5 first) (hs0_5 first) (ms0_6 first) (hs0_6 first) (ms0_7 first) (hs0_7 first) (ms0_8 first) (hs0_8 first) (ms0_9 first) (hs0_9 first) (ms0_10 first) (hs0_10 first) (ms0_11 first) (hs0_11 first) scM0_0 (Memref.isWhole_whole _) scM0_1 (Memref.isWhole_whole _) cc0_scratch2 _ _ _ _ _ ((hcond0_0 first).mpr rfl))) $$ [HI H3 H14 H15 HS HO HX]
    · isplitl [HI]; · iexact HI
      isplitl [H3 H14 H15 HS HO]
      · isplitl [H3]; · iexact H3
        isplitl [H14]; · iexact H14
        isplitl [H15]; · iexact H15
        isplitl [HS]; · iexact HS
        iexact HO
      iexact HX
    iintro ⟨HI, ⟨H3, H14, H15, HS, HO⟩, HX⟩
    iapply Hk
    isplitl [H3 H14 H15 Hg HS]
    · isplitl [H3]; · iexact H3
      isplitl [H14]; · iexact H14
      isplitl [H15]; · iexact H15
      isplitl [Hg]; · iexact Hg
      iexact HS
    isplitl [HO]; · iexact HO
    isplitl [HI]; · iexact HI
    iexact HX
  · rw [PhiS_pos m c _ _ hz]
    unfold Kept
    iintro ⟨⟨H3, H14, H15, Hg, HS⟩, HO, HI, HX⟩ Hk
    iapply (step_owned c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 (iblk m c 0 t) (iblk m c 1 t) (iblk m c 2 t) (iblk m c 3 t) (iblk m c 4 t) (iblk m c 5 t) (iblk m c 6 t) (V m c main_arg1) (grad0 m c) (grad0 m c) (coef0 m c) (coef0 m c) (fun Q => front_later c (grid0.coords t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) cc0_scratch2 _ _ _ _ _ (fun h => hz (by have := (hcond0_0 t).mp h; omega)))) $$ [HI H3 H14 H15 HS HO HX]
    · isplitl [HI]; · iexact HI
      isplitl [H3 H14 H15 HS HO]
      · isplitl [H3]; · iexact H3
        isplitl [H14]; · iexact H14
        isplitl [H15]; · iexact H15
        isplitl [HS]; · iexact HS
        iexact HO
      iexact HX
    iintro ⟨HI, ⟨H3, H14, H15, HS, HO⟩, HX⟩
    iapply Hk
    isplitl [H3 H14 H15 Hg HS]
    · isplitl [H3]; · iexact H3
      isplitl [H14]; · iexact H14
      isplitl [H15]; · iexact H15
      isplitl [Hg]; · iexact Hg
      iexact HS
    isplitl [HO]; · iexact HO
    isplitl [HI]; · iexact HI
    iexact HX

end Cert.KernelIdeal.Own

end
-- ==== Proof.KernelIdeal.Frame.lean ====
/- The launch leaves its arguments as they were. -/
module

public import proofs.«01_k».proof.Proof.KernelIdeal.Carry
public import Idealize.ShloMosaic.Lib.Claim

@[expose] public section

set_option maxRecDepth 8192

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (Pipeline.UD sig nD τ) ℕ

variable (m : (ℓ : Loc nD τ sig) → Buf (Elt F) ℓ) (ρ : Dev nD → PrngReg)
/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant
    `PhiS`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point: `step_at`, what it stores forgotten. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).Φ t.succ = Kept m c from rfl, PhiS_castSucc m c t,
    after0_0, after0_1, after0_2, after0_3, after0_4, after0_5, after0_6]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, H7, H8, H9, H10, H11⟩
  iapply (step_at m c t) $$ [HP HW H0 H1 H2 H3 H4 H5 H6 H7 H8 H9 H10 H11]
  · isplitl [HP]; · iexact HP
    isplitl [HW]; · iexists W; iexact HW
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    isplitl [H10]; · iexact H10
    iexact H11
  iintro ⟨HP, ⟨%W', HW'⟩, ⟨H0, H1, H2, H3, H4, H5, H6⟩, ⟨%f7, H7⟩, ⟨%f8, H8⟩, ⟨%f9, H9⟩, ⟨%f10, H10⟩, ⟨%f11, H11⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]; · iexists _; iexists _; isplitr; swap; iexact H7; ipureintro; rfl
  isplitl [H8]; · iexists _; iexists _; isplitr; swap; iexact H8; ipureintro; rfl
  isplitl [H9]; · iexists _; iexists _; isplitr; swap; iexact H9; ipureintro; rfl
  isplitl [H10]; · iexists _; iexists _; isplitr; swap; iexact H10; ipureintro; rfl
  iexists _; iexists _; isplitr; swap; iexact H11; ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq, whole_pts, show (iprop(∃ d, owns (c : Thread nD τ) scM0_0 fullShare d) : sProp 𝕄G) = _ from exists_whole_pts c cc0_scratch0,
    show (iprop(∃ d, owns (c : Thread nD τ) scM0_1 fullShare d) : sProp 𝕄G) = _ from exists_whole_pts c cc0_scratch1]
  unfold Kept
  iintro ⟨Hh, HS0, HS1, Hg, Hq⟩
  isplitl [HS0 HS1]
  · isplitl [HS0]
    · iexists _; iexact HS0
    iexists _; iexact HS1
  isplitl [Hg]; · iexact Hg
  isplitl [Hq]; · iexact Hq
  iexact Hh

/-- The same after the last point. -/
theorem hout (c : Dev nD) : (dats m 0 c).Φ (Fin.last cfg0.N) ⊢ Pipeline.ΦD osem0 spec0 H0 (V m) c :=
  Phi_out m c _ (by rw [Fin.val_last]; have : cfg0.N = 44 := N_0; omega)

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Own

end
-- ==== Proof.Quant.lean ====
/- A row of one hundred and twenty-eight numbers quantised to eight bits with one scale, over the extended reals. -/
module

public import Idealize.ShloMosaic.Lib.Pointwise

@[expose] public section

noncomputable section

namespace Cert.Quant

open Idealize.ShloMosaic

/-- The largest magnitude of a row. -/
def top (w : Fin 128 → EReal) : EReal :=
  (Finset.univ : Finset (Fin 128)).fold max (Ideal.ofBits .f32 0xFF800000#32) (fun l => FloatOps.absf (F := Ideal) (φ := .f32) (w l))

/-- A row's scale, `one` for a row of zeros. -/
def scale (one : EReal) (w : Fin 128 → EReal) : EReal :=
  if top w = 0 then one else Ideal.div (top w) (Ideal.ofBits .f32 0x42FE0000#32)

/-- The code of an entry at a scale. -/
def code (x s : EReal) : BitVec 8 :=
  FloatOps.fptosi (F := Ideal) (φ := .f32) 8 (min (Ideal.ofBits .f32 0x42FE0000#32)
    (max (Ideal.ofBits .f32 0xC2FE0000#32) (Ideal.liftRound Ideal.roundHalfEven (Ideal.div x s))))

/-- Block `b`'s lane `l`, as a column. -/
abbrev col (b : Fin 64) (l : Fin 128) : Fin 8192 := ⟨128 * b.val + l.val, by omega⟩
/-- The block a column is in. -/
abbrev blk (q : Fin 8192) : Fin 64 := ⟨q.val / 128, by omega⟩

/-- An array of rows of sixty-four blocks, by its codes -/
def codes (one : EReal) {n : ℕ} (M : Fin n → Fin 8192 → EReal) : (⟨2, ![n, 8192]⟩ : Shape).Idx → BitVec 8 :=
  fun y => code (M (y 0) (y 1)) (scale one fun l => M (y 0) (col (blk (y 1)) l))

/-- and its scales, each times `gain`. -/
def scales (one gain : EReal) {n : ℕ} (M : Fin n → Fin 8192 → EReal) : (⟨2, ![n, 64]⟩ : Shape).Idx → EReal :=
  fun y => scale one (fun l => M (y 0) (col (y 1) l)) * gain

end Cert.Quant

end
-- ==== Proof.Algebra.lean ====
/- The extended-real identities the two sides differ by: a quotient against a product with a reciprocal, and a moment kept ten times over. -/
module

public import proofs.«01_k».proof.Proof.Quant
public import Idealize.ShloMosaic.Lib.IdealHost

@[expose] public section

noncomputable section

namespace Cert.Algebra

open Idealize.ShloMosaic
open Cert.Quant (top scale code codes scales)

/-- One over `v`. -/
abbrev recip (v : EReal) : EReal := Ideal.div 1 v

/-! ## The clipped gradient -/

variable {a b : ℕ}

/-- The clipping factor of the quotients by `v`, -/
def clipQ (G : Fin a → Fin b → EReal) (v : EReal) : EReal :=
  min 1 (Ideal.div 1 (Ideal.sqrt (∑ p, ∑ q, Ideal.div (G p q) v * Ideal.div (G p q) v)))
/-- and of the products with its reciprocal. -/
def clipR (G : Fin a → Fin b → EReal) (v : EReal) : EReal :=
  min 1 (Ideal.div 1 (Ideal.sqrt (∑ p, ∑ q, G p q * recip v * (G p q * recip v))))

theorem recip_zero : recip 0 = ⊤ := by
  unfold recip Ideal.div; rw [if_pos rfl, if_pos zero_lt_one]

theorem div_zero_sq (g : EReal) : Ideal.div g 0 * Ideal.div g 0 = ⊤ := by
  unfold Ideal.div
  rw [if_pos rfl]
  split
  · exact EReal.top_mul_top
  · exact EReal.bot_mul_bot

theorem sq_nonneg (g : EReal) : 0 ≤ g * g := by
  rcases le_total 0 g with h | h
  · exact EReal.mul_nonneg h h
  · rw [← neg_mul_neg]
    exact EReal.mul_nonneg (EReal.neg_nonneg.2 h) (EReal.neg_nonneg.2 h)

/-- A double sum of terms not below zero, one of them infinite, is infinite. -/
theorem sum_top (f : Fin a → Fin b → EReal) (h : ∀ p q, 0 ≤ f p q) (p : Fin a) (q : Fin b) (e : f p q = ⊤) : ∑ p, ∑ q, f p q = ⊤ := by
  refine top_le_iff.1 ?_
  calc (⊤ : EReal) = f p q := e.symm
    _ ≤ ∑ q, f p q := Finset.single_le_sum (f := fun q => f p q) (fun q _ => h p q) (Finset.mem_univ q)
    _ ≤ ∑ p, ∑ q, f p q := Finset.single_le_sum (f := fun p => ∑ q, f p q) (fun p _ => Finset.sum_nonneg fun q _ => h p q) (Finset.mem_univ p)

theorem min_div_sqrt_top : min 1 (Ideal.div 1 (Ideal.sqrt ⊤)) = 0 := by
  show min (1 : EReal) (Ideal.div 1 ⊤) = 0
  unfold Ideal.div
  rw [if_neg EReal.top_ne_zero, EReal.inv_top, mul_zero]
  exact min_eq_right zero_le_one

theorem top_sq {g : EReal} (h : g ≠ 0) : g * ⊤ * (g * ⊤) = ⊤ := by
  rcases lt_or_gt_of_ne h with h | h
  · rw [EReal.mul_top_of_neg h]; exact EReal.bot_mul_bot
  · rw [EReal.mul_top_of_pos h]; exact EReal.top_mul_top

/-- The clipped gradient times `t`, from the quotients and from the products with the reciprocal. -/
theorem clipped_eq (G : Fin a → Fin b → EReal) (v t : EReal) (p : Fin a) (q : Fin b) :
    G p q * (clipR G v * recip v * t) = t * (Ideal.div (G p q) v * clipQ G v) := by
  by_cases hv : v = 0
  · subst hv
    have hQ : clipQ G 0 = 0 := by
      unfold clipQ
      rw [sum_top (fun p q => Ideal.div (G p q) 0 * Ideal.div (G p q) 0) (fun p q => sq_nonneg _) p q (div_zero_sq _)]
      exact min_div_sqrt_top
    rw [hQ, mul_zero, mul_zero]
    by_cases h : ∃ p q, G p q ≠ 0
    · obtain ⟨p', q', h'⟩ := h
      have hR : clipR G 0 = 0 := by
        unfold clipR
        rw [recip_zero, sum_top (fun p q => G p q * ⊤ * (G p q * ⊤)) (fun p q => sq_nonneg _) p' q' (top_sq h')]
        exact min_div_sqrt_top
      rw [hR, zero_mul, zero_mul, mul_zero]
    · have h0 : G p q = 0 := by
        by_contra hne
        exact h ⟨p, q, hne⟩
      rw [h0, zero_mul]
  · have hd : ∀ p q, G p q * recip v = Ideal.div (G p q) v := fun p q => Ideal.mul_one_div hv
    have hc : clipR G v = clipQ G v := by
      unfold clipR clipQ
      simp only [hd]
    rw [hc, ← hd p q, mul_comm (clipQ G v) (recip v), mul_assoc (G p q), mul_comm t, ← mul_assoc (G p q)]

/-! ## The moments -/

/-- The first moment. -/
theorem first (x s k h h' : EReal) (e : h = h') : x * (s * k) + h = k * (x * s) + h' := by
  rw [e, ← mul_assoc, mul_comm (x * s) k]

theorem ten : Ideal.ofBits .f32 0x41200000#32 = ((10 : ℝ) : EReal) := by
  simp [Ideal.ofBits, Ideal.ieee, -EReal.coe_mul]; norm_num

theorem top_pattern : Ideal.ofBits .f32 0x42FE0000#32 = ((127 : ℝ) : EReal) := by
  simp [Ideal.ofBits, Ideal.ieee, -EReal.coe_mul]; norm_num

theorem bottom : Ideal.ofBits .f32 0xFF800000#32 = ⊥ := by simp [Ideal.ofBits, Ideal.ieee]

/-- Ten. -/
abbrev ten' : EReal := ((10 : ℝ) : EReal)

theorem ten_pos : (0 : EReal) < ten' := EReal.coe_pos.2 (by norm_num)

/-- The second moment, ten times over. -/
theorem second (x s h u : EReal) (e : h = (((1 / 10 : ℝ) : ℝ) : EReal) * u) :
    x * (s * (ten' - (((1 / 100 : ℝ) : ℝ) : EReal))) + h * h
      = ten' * ((1 - (((1 / 1000 : ℝ) : ℝ) : EReal)) * (x * s) + (((1 / 1000 : ℝ) : ℝ) : EReal) * (u * u)) := by
  have h1 : ten' * (1 - (((1 / 1000 : ℝ) : ℝ) : EReal)) = ten' - (((1 / 100 : ℝ) : ℝ) : EReal) := by
    rw [show (1 : EReal) = ((1 : ℝ) : EReal) from rfl, ← EReal.coe_sub, ← EReal.coe_sub, ← EReal.coe_mul]
    norm_num
  have h2 : ten' * (((1 / 1000 : ℝ) : ℝ) : EReal) = (((1 / 10 : ℝ) : ℝ) : EReal) * (((1 / 10 : ℝ) : ℝ) : EReal) := by
    rw [← EReal.coe_mul, ← EReal.coe_mul]
    norm_num
  rw [EReal.left_distrib_of_nonneg_of_ne_top ten_pos.le (EReal.coe_ne_top _), ← mul_assoc ten', ← mul_assoc ten', h1, h2, e, ← mul_assoc,
    mul_comm (x * s), mul_mul_mul_comm]

/-! ## The quantiser at ten times over -/

theorem abs_ten (x : EReal) : FloatOps.absf (F := Ideal) (φ := .f32) (ten' * x) = ten' * FloatOps.absf (F := Ideal) (φ := .f32) x := by
  show max (ten' * x) (-(ten' * x)) = ten' * max x (-x)
  have hm : Monotone fun y : EReal => ten' * y := fun y z h => mul_le_mul_of_nonneg_left h ten_pos.le
  rw [show -(ten' * x) = ten' * (-x) from (mul_neg _ _).symm]
  exact (hm.map_max).symm

theorem top_ten (w : Fin 128 → EReal) : top (fun l => ten' * w l) = ten' * top w := by
  have hm : Monotone fun y : EReal => ten' * y := fun y z h => mul_le_mul_of_nonneg_left h ten_pos.le
  unfold top
  simp only [abs_ten]
  rw [bottom]
  conv_lhs => rw [show (⊥ : EReal) = ten' * ⊥ from (EReal.mul_bot_of_pos ten_pos).symm]
  exact Finset.fold_hom (m := fun y => ten' * y) (op := max) (op' := max) fun x y => hm.map_max

theorem div_ten (x : EReal) {y : EReal} (hy : y ≠ 0) : Ideal.div (ten' * x) y = ten' * Ideal.div x y := by
  unfold Ideal.div; rw [if_neg hy, if_neg hy, mul_assoc]

theorem pattern_ne : Ideal.ofBits .f32 0x42FE0000#32 ≠ 0 := by
  rw [top_pattern]; exact_mod_cast (by norm_num : (127 : ℝ) ≠ 0)

theorem scale_ten (w : Fin 128 → EReal) : scale ten' (fun l => ten' * w l) = ten' * scale 1 w := by
  unfold scale
  rw [top_ten]
  by_cases h : top w = 0
  · rw [if_pos h, if_pos (by rw [h, mul_zero]), mul_one]
  · rw [if_neg h, if_neg (mul_ne_zero ten_pos.ne' h), div_ten _ pattern_ne]

theorem scale_ne (w : Fin 128 → EReal) : scale 1 w ≠ 0 := by
  unfold scale
  split
  · exact one_ne_zero
  · next h =>
    unfold Ideal.div
    rw [if_neg pattern_ne, top_pattern, ← EReal.coe_inv]
    exact mul_ne_zero h (by exact_mod_cast (by norm_num : ((127 : ℝ)⁻¹) ≠ 0))

theorem code_ten (x : EReal) {s : EReal} (hs : s ≠ 0) : code (ten' * x) (ten' * s) = code x s := by
  unfold code
  have h : Ideal.div (ten' * x) (ten' * s) = Ideal.div x s := by
    unfold Ideal.div
    rw [if_neg (mul_ne_zero ten_pos.ne' hs), if_neg hs, EReal.mul_inv, mul_mul_mul_comm,
      show ten' * ten'⁻¹ = 1 from by rw [← EReal.coe_inv, ← EReal.coe_mul]; norm_num, one_mul]
  rw [h]

/-- The codes of an array ten times over are its codes, -/
theorem codes_ten {n : ℕ} (M : Fin n → Fin 8192 → EReal) : codes ten' (fun p q => ten' * M p q) = codes 1 M := by
  funext y
  unfold codes
  rw [scale_ten, code_ten _ (scale_ne _)]

/-- and its scales, a tenth of theirs. -/
theorem scales_ten {n : ℕ} (M : Fin n → Fin 8192 → EReal) :
    scales ten' (((1 / 10 : ℝ) : ℝ) : EReal) (fun p q => ten' * M p q) = scales 1 1 M := by
  funext y
  unfold scales
  rw [scale_ten, mul_one, mul_comm ten', mul_assoc, ← EReal.coe_mul, show (10 : ℝ) * (1 / 10) = 1 from by norm_num, EReal.coe_one, mul_one]

end Cert.Algebra

end
-- ==== Proof.KernelIdeal.Blocks.lean ====
/- What one trip of the chunk loop stores, as sixty-four instances of one block: thirty-two rows by one hundred and twenty-eight lanes, sharing a scale. -/
module

public import proofs.«01_k».proof.Proof.KernelIdeal.Chunks
public import Idealize.ShloMosaic.Lib.Tactic

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic

variable {F : FTy → Type} [FloatOps F] [Named F]

/-- Where block `b` of chunk `k` starts within a step's window, -/
abbrev offL (k : Fin k0_t3_loop.trips) (b : ℕ) : Fin 2 → ℕ := ![k0_off13 k 0, 128 * b]

/-- and within the whole gradient. -/
abbrev offG (i : grid0.Coords) (k : Fin k0_t3_loop.trips) (b : ℕ) : Fin 2 → ℕ := ![k0_off12 i k 0, 128 * b]

theorem offL_inb (k : Fin k0_t3_loop.trips) (b : ℕ) (hb : b < 64) : ∀ a, offL k b a + S32x128.size a ≤ S64x8192.size a := by
  intro a
  have h := k0_off13_inb k 0
  match a with
  | 0 => exact h
  | 1 => show 128 * b + 128 ≤ 8192; omega

theorem offG_inb (i : grid0.Coords) (k : Fin k0_t3_loop.trips) (b : ℕ) (hb : b < 64) : ∀ a, offG i k b a + S32x128.size a ≤ S2816x8192.size a := by
  intro a
  have h := k0_off12_inb i k 0
  match a with
  | 0 => exact h
  | 1 => show 128 * b + 128 ≤ 8192; omega

theorem col_slices (b : ℕ) (hb : b < 64) : S32x64.Slices ![0, b] S32x1 :=
  ⟨rfl, fun a => match a with
    | 0 => (by decide : 0 + 32 ≤ 32)
    | 1 => (show b + 1 ≤ 64 by omega)⟩

/-! ## One block -/

/-- The clipped gradient of a block, times the first moment's weight. -/
def hB (x : FVec F S1x1 .f32) (g : Vec F S32x128 .bf16) : FVec F S32x128 .f32 :=
  mulf (extf .f32 g bitsLt_bf16_f32) (broadcastTo S32x128 x broadcasts_S1x1_S32x128)

/-- A block of codes times its rows' scales. -/
def deqB (s : FVec F S32x64 .f32) (q : Vec F S32x128 .i8) (b : ℕ) (hb : b < 64) : FVec F S32x128 .f32 :=
  mulf (sitofp .f32 q) (broadcastTo S32x128 (extractStridedSlice S32x1 ![0, b] s (col_slices b hb)) broadcasts_S32x1_S32x128)

/-- The first moment of a block, -/
def mB (x : FVec F S1x1 .f32) (s : FVec F S32x64 .f32) (g : Vec F S32x128 .bf16) (q : Vec F S32x128 .i8) (b : ℕ) (hb : b < 64) : FVec F S32x128 .f32 :=
  addf (deqB s q b hb) (hB x g)

/-- and the second, ten times over. -/
def vB (x : FVec F S1x1 .f32) (s : FVec F S32x64 .f32) (g : Vec F S32x128 .bf16) (q : Vec F S32x128 .i8) (b : ℕ) (hb : b < 64) : FVec F S32x128 .f32 :=
  addf (deqB s q b hb) (mulf (hB x g) (hB x g))

/-- The largest magnitude in each row. -/
def topB (w : FVec F S32x128 .f32) : FVec F S32x1 .f32 :=
  shapeCast S32x1 (multiReduction .maximumf [1] S32 (absf w) 0xFF800000#32 reduces_S32x128_S32 (.inl rfl) rfl) shapeCasts_S32_S32x1

/-- The scale of each row, `one` where the row is zero. -/
def scaleB (one : F .f32) (w : FVec F S32x128 .f32) : FVec F S32x1 .f32 :=
  select (cmpf .oeq (topB w) (broadcast S32x1 (Scalar.ofBits .f32 0x00000000#32))) (broadcast S32x1 one)
    (divf (topB w) (broadcast S32x1 (Scalar.ofBits .f32 0x42FE0000#32)))

/-- The codes of a block. -/
def codeB (one : F .f32) (w : FVec F S32x128 .f32) : IVec S32x128 8 :=
  fptosi 8 (minimumf (broadcast S32x128 (Scalar.ofBits .f32 0x42FE0000#32))
    (maximumf (broadcast S32x128 (Scalar.ofBits .f32 0xC2FE0000#32)) (roundeven (divf w (broadcastTo S32x128 (scaleB one w) broadcasts_S32x1_S32x128)))))

/-- The scales of the blocks before the `n`th, each in its own column. -/
def scalesB (one gain : F .f32) (w : (b : ℕ) → b < 64 → FVec F S32x128 .f32) : (n : ℕ) → n ≤ 64 → FVec F S32x64 .f32
  | 0, _ => broadcast S32x64 (Scalar.ofBits .f32 0x00000000#32)
  | n + 1, h => select (cmpi .eq (iota .tc S32x64 32 [1] iota_S32x64_d1_w32) (broadcast S32x64 (BitVec.ofNat 32 n)))
      (broadcastTo S32x64 (shapeCast S32x1 (mulf (scaleB one (w n h)) (broadcast S32x1 gain)) shapeCasts_S32x1_S32x1) broadcasts_S32x1_S32x64)
      (scalesB one gain w n (Nat.le_of_succ_le h))

/-- A list with one piece per block, the last block first. -/
def blocksB {e : EltTy} {s : Shape} (f : (b : ℕ) → b < 64 → View.Piece (Elt F) s e) : (n : ℕ) → n ≤ 64 → List (View.Piece (Elt F) s e)
  | 0, _ => []
  | n + 1, h => f n h :: blocksB f n (Nat.le_of_succ_le h)

theorem mem_blocksB {e : EltTy} {s : Shape} (f : (b : ℕ) → b < 64 → View.Piece (Elt F) s e) (p : View.Piece (Elt F) s e) :
    ∀ (n : ℕ) (hn : n ≤ 64), p ∈ blocksB f n hn ↔ ∃ b, ∃ hb : b < n, p = f b (Nat.lt_of_lt_of_le hb hn)
  | 0, _ => ⟨fun h => absurd h List.not_mem_nil, fun ⟨_, h, _⟩ => absurd h (Nat.not_lt_zero _)⟩
  | n + 1, h => by
    rw [blocksB, List.mem_cons, mem_blocksB f p n]
    constructor
    · rintro (rfl | ⟨b, hb, rfl⟩)
      · exact ⟨n, Nat.lt_succ_self n, rfl⟩
      · exact ⟨b, Nat.lt_succ_of_lt hb, rfl⟩
    · rintro ⟨b, hb, rfl⟩
      rcases Nat.lt_succ_iff_lt_or_eq.1 hb with h | rfl
      · exact .inr ⟨b, h, rfl⟩
      · exact .inl rfl

/-! ## One trip -/

variable (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec F S1x1 .f32) (v384 : FVec F S1x1 .f32) (v388 : FVec F S1x1 .f32) (cst_166 : F .f32) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (k : Fin k0_t3_loop.trips)

/-- The gradient a block reads, -/
abbrev gradAt (b : ℕ) (hb : b < 64) : Vec F S32x128 .bf16 :=
  arg14.view.readAt (Elt F) (Rect.unit (s := S2816x8192) (offG i k b) S32x128.size (offG_inb i k b hb)).toLoadRect X_arg14

/-- its first moment -/
abbrev mAt (b : ℕ) (hb : b < 64) : FVec F S32x128 .f32 :=
  mB v384 (mulf (arg6.view.readAt (Elt F) (Rect.unit (s := S64x64) (k0_off11 k) S32x64.size (k0_off11_inb k)).toLoadRect X_arg6) (broadcast S32x64 (Scalar.ofBits .f32 0x3F666666#32)))
    (gradAt i arg14 X_arg14 k b hb) (arg5.view.readAt (Elt F) (Rect.unit (s := S64x8192) (offL k b) S32x128.size (offL_inb k b hb)).toLoadRect X_arg5) b hb

/-- and its second. -/
abbrev vAt (b : ℕ) (hb : b < 64) : FVec F S32x128 .f32 :=
  vB v384 (mulf (arg8.view.readAt (Elt F) (Rect.unit (s := S64x64) (k0_off11 k) S32x64.size (k0_off11_inb k)).toLoadRect X_arg8)
      (subf (broadcast S32x64 (Scalar.ofBits .f32 0x41200000#32)) (broadcast S32x64 (Named.named κ "hundredth" 0x3C23D70A#32))))
    (gradAt i arg14 X_arg14 k b hb) (arg7.view.readAt (Elt F) (Rect.unit (s := S64x8192) (offL k b) S32x128.size (offL_inb k b hb)).toLoadRect X_arg7) b hb

theorem trip_mcodes : (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1
    = blocksB (fun b hb => ⟨Rect.unit (s := S64x8192) (offL k b) S32x128.size (offL_inb k b hb), codeB (Scalar.ofBits .f32 0x3F800000#32) (mAt i arg5 arg6 arg14 v384 X_arg5 X_arg6 X_arg14 k b hb)⟩) 64 (Nat.le_refl 64) := by
  unfold trip_k0_t3
  sl_kernel_rfl

theorem trip_mscales : (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1
    = [⟨Rect.unit (s := S64x64) (k0_off11 k) S32x64.size (k0_off11_inb k), scalesB (Scalar.ofBits .f32 0x3F800000#32) (Scalar.ofBits .f32 0x3F800000#32) (mAt i arg5 arg6 arg14 v384 X_arg5 X_arg6 X_arg14 k) 64 (Nat.le_refl 64)⟩] := by
  unfold trip_k0_t3
  sl_kernel_rfl

theorem trip_vcodes : (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1
    = blocksB (fun b hb => ⟨Rect.unit (s := S64x8192) (offL k b) S32x128.size (offL_inb k b hb), codeB (Scalar.ofBits .f32 0x41200000#32) (vAt i arg7 arg8 arg14 v384 X_arg7 X_arg8 X_arg14 k b hb)⟩) 64 (Nat.le_refl 64) := by
  unfold trip_k0_t3
  sl_kernel_rfl

theorem trip_vscales : (trip_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.1
    = [⟨Rect.unit (s := S64x64) (k0_off11 k) S32x64.size (k0_off11_inb k), scalesB (Scalar.ofBits .f32 0x41200000#32) (Named.named κ "tenth" 0x3DCCCCCD#32) (vAt i arg7 arg8 arg14 v384 X_arg7 X_arg8 X_arg14 k) 64 (Nat.le_refl 64)⟩] := by
  unfold trip_k0_t3
  sl_kernel_rfl

end Cert.KernelIdeal.Own
-- ==== Proof.KernelIdeal.Points.lean ====
/- The values of one block, entry by entry, over the extended reals. -/
module

public import proofs.«01_k».proof.Proof.KernelIdeal.Blocks
public import proofs.«01_k».proof.Proof.Quant

@[expose] public section

set_option maxRecDepth 65536
set_option maxHeartbeats 4000000

noncomputable section

namespace Cert.KernelIdeal.Own

open Cert.KernelIdeal.Gen
open Idealize.ShloMosaic Idealize.ShloMosaic.TcCoe

theorem topB_at (w : FVec Ideal S32x128 .f32) (r : Fin 32) (u : Fin 1) : topB w (ix2 r u) = Quant.top fun l => w (ix2 r l) := by
  unfold topB Quant.top
  pointwise

theorem scaleB_at (one : EReal) (w : FVec Ideal S32x128 .f32) (r : Fin 32) (u : Fin 1) :
    scaleB (F := Ideal) one w (ix2 r u) = Quant.scale one fun l => w (ix2 r l) := by
  unfold scaleB Quant.scale
  rw [← topB_at w r u]
  pointwise

theorem codeB_at (one : EReal) (w : FVec Ideal S32x128 .f32) (r : Fin 32) (l : Fin 128) :
    codeB (F := Ideal) one w (ix2 r l) = Quant.code (w (ix2 r l)) (Quant.scale one fun l => w (ix2 r l)) := by
  unfold codeB Quant.code
  rw [← scaleB_at one w r 0]
  pointwise

theorem hB_at (x : FVec Ideal S1x1 .f32) (g : Vec Ideal S32x128 .bf16) (r : Fin 32) (l : Fin 128) :
    hB x g (ix2 r l) = g (ix2 r l) * x (ix2 0 0) := by
  unfold hB
  pointwise

theorem mB_at (x : FVec Ideal S1x1 .f32) (s : FVec Ideal S32x64 .f32) (g : Vec Ideal S32x128 .bf16) (q : Vec Ideal S32x128 .i8) (b : ℕ) (hb : b < 64)
    (r : Fin 32) (l : Fin 128) :
    mB x s g q b hb (ix2 r l) = FloatOps.sitofp (F := Ideal) .f32 (q (ix2 r l)) * s (ix2 r ⟨b, hb⟩) + g (ix2 r l) * x (ix2 0 0) := by
  unfold mB deqB hB
  pointwise

theorem vB_at (x : FVec Ideal S1x1 .f32) (s : FVec Ideal S32x64 .f32) (g : Vec Ideal S32x128 .bf16) (q : Vec Ideal S32x128 .i8) (b : ℕ) (hb : b < 64)
    (r : Fin 32) (l : Fin 128) :
    vB x s g q b hb (ix2 r l)
      = FloatOps.sitofp (F := Ideal) .f32 (q (ix2 r l)) * s (ix2 r ⟨b, hb⟩) + g (ix2 r l) * x (ix2 0 0) * (g (ix2 r l) * x (ix2 0 0)) := by
  unfold vB deqB hB
  pointwise

theorem lane_eq (l n : ℕ) (hl : l < 64) (hn : n < 64) : (IntOp.cmpi .eq (BitVec.ofNat 32 l) (BitVec.ofNat 32 n) = 1#1) ↔ l = n := by
  have h : (BitVec.ofNat 32 l = BitVec.ofNat 32 n) ↔ l = n := by
    rw [← BitVec.toNat_inj, BitVec.toNat_ofNat, BitVec.toNat_ofNat, Nat.mod_eq_of_lt (by omega), Nat.mod_eq_of_lt (by omega)]
  rw [← h]
  by_cases e : BitVec.ofNat 32 l = BitVec.ofNat 32 n
  · simp [IntOp.cmpi, e]
  · have e' : (BitVec.ofNat 32 l == BitVec.ofNat 32 n) = false := beq_eq_false_iff_ne.2 e
    show BitVec.ofBool (BitVec.ofNat 32 l == BitVec.ofNat 32 n) = 1#1 ↔ _
    rw [e']
    exact ⟨fun h => absurd h (by decide), fun h => absurd h e⟩

theorem scalesB_at (one gain : EReal) (w : (b : ℕ) → b < 64 → FVec Ideal S32x128 .f32) (r : Fin 32) (l : Fin 64) : ∀ (n : ℕ) (h : n ≤ 64), l.val < n →
    scalesB (F := Ideal) one gain w n h (ix2 r l) = Quant.scale one (fun k => w l.val l.isLt (ix2 r k)) * gain
  | 0, _, hl => absurd hl (Nat.not_lt_zero _)
  | n + 1, h, hl => by
    rw [scalesB]
    pointwise
    rw [scaleB_at]
    by_cases e : l.val = n
    · subst e
      rw [(lane_eq l.val l.val l.isLt l.isLt).2 rfl]
      rfl
    · have h0 : IntOp.cmpi .eq (BitVec.ofNat 32 l.val) (BitVec.ofNat 32 n) ≠ 1#1 := fun h1 => e ((lane_eq l.val n l.isLt h).1 h1)
      rw [ValueIdx.eq_zero_of_ne_one h0]
      exact scalesB_at one gain w r l n (Nat.le_of_succ_le h) (by omega)

end Cert.KernelIdeal.Own

end
-- ==== Proof.KernelIdeal.Steps.lean ====
/- What one grid step stores, as the codes and scales of its sixty-four rows of both moments. -/
module

public import proofs.«01_k».proof.Proof.KernelIdeal.Points
public import Idealize.ShloMosaic.Lib.Pipeline.ValueKit

@[expose] public section

set_option maxRecDepth 65536
set_option maxHeartbeats 4000000

noncomputable section

namespace Cert.KernelIdeal.Own

open Cert.KernelIdeal.Gen
open Idealize.ShloMosaic Idealize.ShloMosaic.TcCoe
open Cert.Quant (col blk codes scales)

/-! ## Where a chunk's blocks lie -/

theorem off11_eq : ∀ k, k0_off11 k = ![32 * k.val, 0] := by decide +kernel
theorem off13_eq : ∀ k, k0_off13 k = ![32 * k.val, 0] := by decide +kernel
theorem off12_eq : ∀ (i : grid0.Coords) (k), k0_off12 i k = ![64 * (i 0).val + 32 * k.val, 0] := by decide +kernel

/-- Row `r` of chunk `k`, in a step's window. -/
abbrev row (k : Fin k0_t3_loop.trips) (r : Fin 32) : Fin 64 := ⟨32 * k.val + r.val, by have h : k.val < 2 := k.isLt; omega⟩
/-- Row `p` of step `i`, in the whole array. -/
abbrev grow (i : grid0.Coords) (p : Fin 64) : Fin 2816 := ⟨64 * (i 0).val + p.val, by have h : (i 0).val < 44 := (i 0).isLt; omega⟩

/-- An index of a matrix is its two coordinates. -/
theorem pair {a b : ℕ} (x : (⟨2, ![a, b]⟩ : Shape).Idx) : ∃ (r : Fin a) (l : Fin b), x = ix2 r l :=
  ⟨x 0, x 1, ValueIdx.eq_ix2 x⟩

/-- Where a block's entry goes. -/
theorem emb_blk (k : Fin k0_t3_loop.trips) (b : ℕ) (hb : b < 64) (r : Fin 32) (l : Fin 128) :
    (Rect.unit (s := S64x8192) (offL k b) S32x128.size (offL_inb k b hb)).emb (ix2 r l) = ix2 (row k r) (col ⟨b, hb⟩ l) := by
  funext a
  apply Fin.ext
  have h : k0_off13 k 0 = 32 * k.val := by rw [off13_eq]; rfl
  match a with
  | 0 => show k0_off13 k 0 + 1 * r.val = 32 * k.val + r.val; omega
  | 1 => show 128 * b + 1 * l.val = 128 * b + l.val; omega

/-- Where a chunk's scale goes. -/
theorem emb_scl (k : Fin k0_t3_loop.trips) (r : Fin 32) (b : Fin 64) :
    (Rect.unit (s := S64x64) (k0_off11 k) S32x64.size (k0_off11_inb k)).emb (ix2 r b) = ix2 (row k r) b := by
  funext a
  apply Fin.ext
  have h0 : k0_off11 k 0 = 32 * k.val := by rw [off11_eq]; rfl
  have h1 : k0_off11 k 1 = 0 := by rw [off11_eq]; rfl
  match a with
  | 0 => show k0_off11 k 0 + 1 * r.val = 32 * k.val + r.val; omega
  | 1 => show k0_off11 k 1 + 1 * b.val = b.val; omega

/-- A block's codes are the window's. -/
theorem codeB_piece (one : EReal) (M : Fin 64 → Fin 8192 → EReal) (k : Fin k0_t3_loop.trips) (b : ℕ) (hb : b < 64) (w : FVec Ideal S32x128 .f32)
    (hw : ∀ r l, w (ix2 r l) = M (row k r) (col ⟨b, hb⟩ l)) (x : S32x128.Idx) :
    codeB (F := Ideal) one w x = codes one M ((Rect.unit (s := S64x8192) (offL k b) S32x128.size (offL_inb k b hb)).emb x) := by
  obtain ⟨r, l, rfl⟩ := pair x
  have e : (Rect.unit (s := S64x8192) (offL k b) S32x128.size (offL_inb k b hb)).emb (ix2 r l) = ix2 (row k r) (col ⟨b, hb⟩ l) := emb_blk k b hb r l
  have hl : l.val < 128 := l.isLt
  have hq : blk (col ⟨b, hb⟩ l) = ⟨b, hb⟩ := Fin.ext (by show (128 * b + l.val) / 128 = b; omega)
  rw [e, codeB_at]
  show _ = Quant.code (M (row k r) (col ⟨b, hb⟩ l)) (Quant.scale one fun l' => M (row k r) (col (blk (col ⟨b, hb⟩ l)) l'))
  rw [hq]
  simp only [hw]

/-- A chunk's scales are the window's. -/
theorem scalesB_piece (one gain : EReal) (M : Fin 64 → Fin 8192 → EReal) (k : Fin k0_t3_loop.trips) (w : (b : ℕ) → b < 64 → FVec Ideal S32x128 .f32)
    (hw : ∀ b hb r l, w b hb (ix2 r l) = M (row k r) (col ⟨b, hb⟩ l)) (x : S32x64.Idx) :
    scalesB (F := Ideal) one gain w 64 (Nat.le_refl 64) x = scales one gain M ((Rect.unit (s := S64x64) (k0_off11 k) S32x64.size (k0_off11_inb k)).emb x) := by
  obtain ⟨r, b, rfl⟩ := pair x
  have e : (Rect.unit (s := S64x64) (k0_off11 k) S32x64.size (k0_off11_inb k)).emb (ix2 r b) = ix2 (row k r) b := emb_scl k r b
  rw [e, scalesB_at one gain w r b 64 (Nat.le_refl 64) b.isLt]
  show _ = Quant.scale one (fun l => M (row k r) (col b l)) * gain
  simp only [hw]

/-! ## The moments of a step's window -/

/-- The first moment at row `p`, column `q` of a window, from its codes, scales and gradient and the coefficient `x`, -/
def mom1 {n : ℕ} (mc : (⟨2, ![n, 8192]⟩ : Shape).Idx → BitVec 8) (ms : (⟨2, ![n, 64]⟩ : Shape).Idx → EReal) (g : Fin n → Fin 8192 → EReal) (x : EReal) :
    Fin n → Fin 8192 → EReal :=
  fun p q => FloatOps.sitofp (F := Ideal) .f32 (mc (ix2 p q)) * (ms (ix2 p (blk q)) * Ideal.ofBits .f32 0x3F666666#32) + g p q * x

/-- and the second, ten times over. -/
def mom2 {n : ℕ} (vc : (⟨2, ![n, 8192]⟩ : Shape).Idx → BitVec 8) (vs : (⟨2, ![n, 64]⟩ : Shape).Idx → EReal) (g : Fin n → Fin 8192 → EReal) (x : EReal) :
    Fin n → Fin 8192 → EReal :=
  fun p q => FloatOps.sitofp (F := Ideal) .f32 (vc (ix2 p q)) * (vs (ix2 p (blk q)) * (Ideal.ofBits .f32 0x41200000#32 - Named.named (F := Ideal) κ "hundredth" (φ := .f32) 0x3C23D70A#32))
    + g p q * x * (g p q * x)

variable (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (arg0 : BitVec 32) (v192 : FVec Ideal S1x1 .f32) (v384 : FVec Ideal S1x1 .f32) (v388 : FVec Ideal S1x1 .f32) (cst_166 : Ideal .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg14 : BufTy.Contents (Elt Ideal) arg14.view.ty)

theorem blk_col (b : Fin 64) (l : Fin 128) : blk (col b l) = b := Fin.ext (by show (128 * b.val + l.val) / 128 = b.val; omega)

/-- The rows of the gradient that step `i` reads. -/
abbrev gradRows : Fin 64 → Fin 8192 → EReal := fun p q => arg14.view.read (Elt Ideal) X_arg14 (ix2 (grow i p) q)

theorem gradAt_at (k : Fin k0_t3_loop.trips) (b : ℕ) (hb : b < 64) (r : Fin 32) (l : Fin 128) :
    gradAt (F := Ideal) i arg14 X_arg14 k b hb (ix2 r l) = gradRows i arg14 X_arg14 (row k r) (col ⟨b, hb⟩ l) := by
  unfold gradAt
  rw [View.readAt_eq_ld]
  refine View.ld_unit_apply_of _ _ _ _ _ (ix2 (grow i (row k r)) (col ⟨b, hb⟩ l)) fun a => ?_
  have h : k0_off12 i k 0 = 64 * (i 0).val + 32 * k.val := by rw [off12_eq]; rfl
  match a with
  | 0 => show 64 * (i 0).val + (32 * k.val + r.val) = k0_off12 i k 0 + r.val; omega
  | 1 => rfl

theorem codesAt (v : Memref sig .tc .vmem S64x8192 .i8) (X : BufTy.Contents (Elt Ideal) v.view.ty) (k : Fin k0_t3_loop.trips) (b : ℕ) (hb : b < 64) (r : Fin 32) (l : Fin 128) :
    v.view.readAt (Elt Ideal) (Rect.unit (s := S64x8192) (offL k b) S32x128.size (offL_inb k b hb)).toLoadRect X (ix2 r l)
      = v.view.read (Elt Ideal) X (ix2 (row k r) (col ⟨b, hb⟩ l)) := by
  rw [View.readAt_eq_ld]
  refine View.ld_unit_apply_of _ _ _ _ _ _ fun a => ?_
  have h : k0_off13 k 0 = 32 * k.val := by rw [off13_eq]; rfl
  match a with
  | 0 => show 32 * k.val + r.val = k0_off13 k 0 + r.val; omega
  | 1 => rfl

theorem scalesAt (v : Memref sig .tc .vmem S64x64 .f32) (X : BufTy.Contents (Elt Ideal) v.view.ty) (k : Fin k0_t3_loop.trips) (r : Fin 32) (b : Fin 64) :
    v.view.readAt (Elt Ideal) (Rect.unit (s := S64x64) (k0_off11 k) S32x64.size (k0_off11_inb k)).toLoadRect X (ix2 r b)
      = v.view.read (Elt Ideal) X (ix2 (row k r) b) := by
  rw [View.readAt_eq_ld]
  refine View.ld_unit_apply_of _ _ _ _ _ _ fun a => ?_
  have h0 : k0_off11 k 0 = 32 * k.val := by rw [off11_eq]; rfl
  have h1 : k0_off11 k 1 = 0 := by rw [off11_eq]; rfl
  match a with
  | 0 => show 32 * k.val + r.val = k0_off11 k 0 + r.val; omega
  | 1 => show b.val = k0_off11 k 1 + b.val; omega

/-- The first moments of a step's window, -/
abbrev M1 : Fin 64 → Fin 8192 → EReal :=
  mom1 (arg5.view.read (Elt Ideal) X_arg5) (arg6.view.read (Elt Ideal) X_arg6) (gradRows i arg14 X_arg14) (v384 (ix2 0 0))
/-- and the second. -/
abbrev M2 : Fin 64 → Fin 8192 → EReal :=
  mom2 (arg7.view.read (Elt Ideal) X_arg7) (arg8.view.read (Elt Ideal) X_arg8) (gradRows i arg14 X_arg14) (v384 (ix2 0 0))

theorem mAt_at (k : Fin k0_t3_loop.trips) (b : ℕ) (hb : b < 64) (r : Fin 32) (l : Fin 128) :
    mAt (F := Ideal) i arg5 arg6 arg14 v384 X_arg5 X_arg6 X_arg14 k b hb (ix2 r l) = M1 i arg5 arg6 arg14 v384 X_arg5 X_arg6 X_arg14 (row k r) (col ⟨b, hb⟩ l) := by
  unfold mAt M1 mom1
  rw [mB_at, gradAt_at, codesAt, blk_col]
  pointwise
  rw [scalesAt]

theorem vAt_at (k : Fin k0_t3_loop.trips) (b : ℕ) (hb : b < 64) (r : Fin 32) (l : Fin 128) :
    vAt (F := Ideal) i arg7 arg8 arg14 v384 X_arg7 X_arg8 X_arg14 k b hb (ix2 r l) = M2 i arg7 arg8 arg14 v384 X_arg7 X_arg8 X_arg14 (row k r) (col ⟨b, hb⟩ l) := by
  unfold vAt M2 mom2
  rw [vB_at, gradAt_at, codesAt, blk_col]
  pointwise
  rw [scalesAt]

/-! ## What the two chunks store -/

/-- The first chunk -/
abbrev trip0 : Fin k0_t3_loop.trips := ⟨0, by decide⟩
/-- and the second. -/
abbrev trip1 : Fin k0_t3_loop.trips := ⟨1, by decide⟩

theorem chunk_cases (k : Fin k0_t3_loop.trips) : k = trip1 ∨ k = trip0 := by revert k; decide

theorem mem_chunks {α : Type} (T : Fin k0_t3_loop.trips → List α) (L0 L1 L2 : List α) (h2 : L2 = T trip1 ++ L1) (h1 : L1 = T trip0 ++ L0) (h0 : L0 = []) (p : α) :
    p ∈ L2 ↔ ∃ k, p ∈ T k := by
  subst h0 h1 h2
  rw [List.mem_append, List.append_nil]
  constructor
  · rintro (h | h)
    · exact ⟨trip1, h⟩
    · exact ⟨trip0, h⟩
  · rintro ⟨k, h⟩
    rcases chunk_cases k with rfl | rfl
    · exact .inl h
    · exact .inr h

theorem mem_pb1 (p : View.Piece (Elt Ideal) S64x8192 .i8) : p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.1 ↔ ∃ k, p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1 :=
  mem_chunks (fun k => (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.1) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 0).2.1 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 1).2.1 _
    (congrArg (fun L => L.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip1)) (congrArg (fun L => L.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip0))
    (congrArg (fun L => L.2.1) (pb_k0_t3.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14)) p

theorem mem_pb2 (p : View.Piece (Elt Ideal) S64x64 .f32) : p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.1 ↔ ∃ k, p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1 :=
  mem_chunks (fun k => (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.1) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 0).2.2.1 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 1).2.2.1 _
    (congrArg (fun L => L.2.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip1)) (congrArg (fun L => L.2.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip0))
    (congrArg (fun L => L.2.2.1) (pb_k0_t3.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14)) p

theorem mem_pb3 (p : View.Piece (Elt Ideal) S64x8192 .i8) : p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.2.1 ↔ ∃ k, p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1 :=
  mem_chunks (fun k => (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.1) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 0).2.2.2.1 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 1).2.2.2.1 _
    (congrArg (fun L => L.2.2.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip1)) (congrArg (fun L => L.2.2.2.1) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip0))
    (congrArg (fun L => L.2.2.2.1) (pb_k0_t3.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14)) p

theorem mem_pb4 (p : View.Piece (Elt Ideal) S64x64 .f32) : p ∈ (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.2.2 ↔ ∃ k, p ∈ (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.1 :=
  mem_chunks (fun k => (trip_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k).2.2.2.2.1) (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 0).2.2.2.2 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 1).2.2.2.2 _
    (congrArg (fun L => L.2.2.2.2) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip1)) (congrArg (fun L => L.2.2.2.2) (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 trip0))
    (congrArg (fun L => L.2.2.2.2) (pb_k0_t3.eq_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14)) p

theorem cover_blk (y : S64x8192.Idx) : ∃ (k : Fin k0_t3_loop.trips) (b : ℕ) (hb : b < 64), y ∈ (Rect.unit (s := S64x8192) (offL k b) S32x128.size (offL_inb k b hb)).set := by
  obtain ⟨p, q, rfl⟩ := pair y
  refine ⟨⟨p.val / 32, by show p.val / 32 < 2; omega⟩, q.val / 128, by omega, ?_⟩
  have e := emb_blk ⟨p.val / 32, by show p.val / 32 < 2; omega⟩ (q.val / 128) (by omega) ⟨p.val % 32, by omega⟩ ⟨q.val % 128, by omega⟩
  have h : (ix2 p q : S64x8192.Idx) = ix2 (row ⟨p.val / 32, by show p.val / 32 < 2; omega⟩ ⟨p.val % 32, by omega⟩) (col ⟨q.val / 128, by omega⟩ ⟨q.val % 128, by omega⟩) := by
    congr 1
    · exact Fin.ext (by show p.val = 32 * (p.val / 32) + p.val % 32; omega)
    · exact Fin.ext (by show q.val = 128 * (q.val / 128) + q.val % 128; omega)
  rw [h, ← e]
  exact LoadRect.idx_mem _ _

theorem cover_scl (y : S64x64.Idx) : ∃ k : Fin k0_t3_loop.trips, y ∈ (Rect.unit (s := S64x64) (k0_off11 k) S32x64.size (k0_off11_inb k)).set := by
  obtain ⟨p, q, rfl⟩ := pair y
  refine ⟨⟨p.val / 32, by show p.val / 32 < 2; omega⟩, ?_⟩
  have e := emb_scl ⟨p.val / 32, by show p.val / 32 < 2; omega⟩ ⟨p.val % 32, by omega⟩ q
  have h : (ix2 p q : S64x64.Idx) = ix2 (row ⟨p.val / 32, by show p.val / 32 < 2; omega⟩ ⟨p.val % 32, by omega⟩) q := by
    congr 1
    exact Fin.ext (by show p.val = 32 * (p.val / 32) + p.val % 32; omega)
  rw [h, ← e]
  exact LoadRect.idx_mem _ _

/-- Two chunks of blocks, read back, are the codes of the window; -/
theorem read_codes (v : View sig .tc .vmem S64x8192 .i8) (f : v.ty.Contents (Elt Ideal)) (L : List (View.Piece (Elt Ideal) S64x8192 .i8)) (one : EReal)
    (M : Fin 64 → Fin 8192 → EReal) (w : Fin k0_t3_loop.trips → (b : ℕ) → b < 64 → FVec Ideal S32x128 .f32)
    (hw : ∀ k b hb r l, w k b hb (ix2 r l) = M (row k r) (col ⟨b, hb⟩ l))
    (hL : ∀ p, p ∈ L ↔ ∃ k, p ∈ blocksB (F := Ideal) (fun b hb => ⟨Rect.unit (s := S64x8192) (offL k b) S32x128.size (offL_inb k b hb), codeB (F := Ideal) one (w k b hb)⟩) 64 (Nat.le_refl 64)) :
    v.read (Elt Ideal) (v.writes (Elt Ideal) f L) = codes one M := by
  funext y
  refine View.read_writes_apply_of_pieces (Val := Elt Ideal) v f (codes one M) L (fun p hp => ?_) y ?_
  · obtain ⟨k, hk⟩ := (hL p).1 hp
    obtain ⟨b, hb, rfl⟩ := (mem_blocksB _ _ _ _).1 hk
    exact fun x => codeB_piece one M k b hb _ (hw k b hb) x
  · obtain ⟨k, b, hb, hy⟩ := cover_blk y
    exact ⟨_, (hL _).2 ⟨k, (mem_blocksB _ _ _ _).2 ⟨b, hb, rfl⟩⟩, hy⟩

/-- likewise their scales. -/
theorem read_scales (v : View sig .tc .vmem S64x64 .f32) (f : v.ty.Contents (Elt Ideal)) (L : List (View.Piece (Elt Ideal) S64x64 .f32)) (one gain : EReal)
    (M : Fin 64 → Fin 8192 → EReal) (w : Fin k0_t3_loop.trips → (b : ℕ) → b < 64 → FVec Ideal S32x128 .f32)
    (hw : ∀ k b hb r l, w k b hb (ix2 r l) = M (row k r) (col ⟨b, hb⟩ l))
    (hL : ∀ p, p ∈ L ↔ ∃ k, p ∈ ([⟨Rect.unit (s := S64x64) (k0_off11 k) S32x64.size (k0_off11_inb k), scalesB (F := Ideal) one gain (w k) 64 (Nat.le_refl 64)⟩] : List (View.Piece (Elt Ideal) S64x64 .f32))) :
    v.read (Elt Ideal) (v.writes (Elt Ideal) f L) = scales one gain M := by
  funext y
  refine View.read_writes_apply_of_pieces (Val := Elt Ideal) v f (scales one gain M) L (fun p hp => ?_) y ?_
  · obtain ⟨k, hk⟩ := (hL p).1 hp
    obtain rfl := List.mem_singleton.1 hk
    exact fun x => scalesB_piece one gain M k _ (hw k) x
  · obtain ⟨k, hy⟩ := cover_scl y
    exact ⟨_, (hL _).2 ⟨k, List.mem_singleton.2 rfl⟩, hy⟩

/-- The window of the first moment's codes, read back, -/
theorem read_mcodes (v : View sig .tc .vmem S64x8192 .i8) (f : v.ty.Contents (Elt Ideal)) :
    v.read (Elt Ideal) (v.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.1) = codes (Scalar.ofBits (F := Ideal) .f32 0x3F800000#32) (M1 i arg5 arg6 arg14 v384 X_arg5 X_arg6 X_arg14) :=
  read_codes v f _ (Scalar.ofBits (F := Ideal) .f32 0x3F800000#32) (M1 i arg5 arg6 arg14 v384 X_arg5 X_arg6 X_arg14) (mAt (F := Ideal) i arg5 arg6 arg14 v384 X_arg5 X_arg6 X_arg14)
    (mAt_at i arg5 arg6 arg14 v384 X_arg5 X_arg6 X_arg14) (fun p => (mem_pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 p).trans
      (exists_congr fun k => iff_of_eq (congrArg (p ∈ ·) (trip_mcodes (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k))))

/-- of its scales, -/
theorem read_mscales (v : View sig .tc .vmem S64x64 .f32) (f : v.ty.Contents (Elt Ideal)) :
    v.read (Elt Ideal) (v.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.1) = scales (Scalar.ofBits (F := Ideal) .f32 0x3F800000#32) (Scalar.ofBits (F := Ideal) .f32 0x3F800000#32) (M1 i arg5 arg6 arg14 v384 X_arg5 X_arg6 X_arg14) :=
  read_scales v f _ (Scalar.ofBits (F := Ideal) .f32 0x3F800000#32) (Scalar.ofBits (F := Ideal) .f32 0x3F800000#32) (M1 i arg5 arg6 arg14 v384 X_arg5 X_arg6 X_arg14) (mAt (F := Ideal) i arg5 arg6 arg14 v384 X_arg5 X_arg6 X_arg14)
    (mAt_at i arg5 arg6 arg14 v384 X_arg5 X_arg6 X_arg14) (fun p => (mem_pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 p).trans
      (exists_congr fun k => iff_of_eq (congrArg (p ∈ ·) (trip_mscales (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k))))

/-- of the second's codes, -/
theorem read_vcodes (v : View sig .tc .vmem S64x8192 .i8) (f : v.ty.Contents (Elt Ideal)) :
    v.read (Elt Ideal) (v.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.2.1) = codes (Scalar.ofBits (F := Ideal) .f32 0x41200000#32) (M2 i arg7 arg8 arg14 v384 X_arg7 X_arg8 X_arg14) :=
  read_codes v f _ (Scalar.ofBits (F := Ideal) .f32 0x41200000#32) (M2 i arg7 arg8 arg14 v384 X_arg7 X_arg8 X_arg14) (vAt (F := Ideal) i arg7 arg8 arg14 v384 X_arg7 X_arg8 X_arg14)
    (vAt_at i arg7 arg8 arg14 v384 X_arg7 X_arg8 X_arg14) (fun p => (mem_pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 p).trans
      (exists_congr fun k => iff_of_eq (congrArg (p ∈ ·) (trip_vcodes (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k))))

/-- and of its scales. -/
theorem read_vscales (v : View sig .tc .vmem S64x64 .f32) (f : v.ty.Contents (Elt Ideal)) :
    v.read (Elt Ideal) (v.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 2).2.2.2.2) = scales (Scalar.ofBits (F := Ideal) .f32 0x41200000#32) (Named.named (F := Ideal) κ "tenth" (φ := .f32) 0x3DCCCCCD#32) (M2 i arg7 arg8 arg14 v384 X_arg7 X_arg8 X_arg14) :=
  read_scales v f _ (Scalar.ofBits (F := Ideal) .f32 0x41200000#32) (Named.named (F := Ideal) κ "tenth" (φ := .f32) 0x3DCCCCCD#32) (M2 i arg7 arg8 arg14 v384 X_arg7 X_arg8 X_arg14) (vAt (F := Ideal) i arg7 arg8 arg14 v384 X_arg7 X_arg8 X_arg14)
    (vAt_at i arg7 arg8 arg14 v384 X_arg7 X_arg8 X_arg14) (fun p => (mem_pb4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 p).trans
      (exists_congr fun k => iff_of_eq (congrArg (p ∈ ·) (trip_vscales (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 v192 v384 v388 cst_166 X_arg4 X_arg5 X_arg6 X_arg7 X_arg8 X_arg14 k))))

end Cert.KernelIdeal.Own

end
-- ==== Proof.KernelIdeal.Named.lean ====
/- The launch over the extended reals: its arguments end as they were and its quantised moments hold what the steps store. -/
module

public import proofs.«01_k».proof.Proof.KernelIdeal.Carry
public import proofs.«01_k».proof.Proof.KernelIdeal.Steps
public import Idealize.ShloMosaic.Lib.Claim

@[expose] public section

set_option maxRecDepth 8192

noncomputable section

namespace Cert.KernelIdeal.Named

open Cert.KernelIdeal.Gen Cert.KernelIdeal.Own
open Cert.Quant (codes scales)
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

local notation "𝕄G" => MT nD τ sig Unit (Elt Ideal) ℕ (Pipeline.UD sig nD τ) ℕ

variable (m : (ℓ : Loc nD τ sig) → Buf (Elt Ideal) ℓ) (ρ : Dev nD → PrngReg)
/-! ## What each step leaves in the four quantised results -/

/-- The coefficient every step reads. -/
abbrev coefX (c : Dev nD) : EReal := k0_pay867 (F := Ideal) (coefWord scM0_1 (coef0 m c)) (ix2 0 0)

/-- The first moments of step `t`'s rows, -/
abbrev step1 (c : Dev nD) (t : Fin cfg0.N) : Fin 64 → Fin 8192 → EReal :=
  mom1 (iblk m c 3 t) (iblk m c 4 t) (gradRows (grid0.coords t) scM0_0 (grad0 m c)) (coefX m c)
/-- and the second. -/
abbrev step2 (c : Dev nD) (t : Fin cfg0.N) : Fin 64 → Fin 8192 → EReal :=
  mom2 (iblk m c 5 t) (iblk m c 6 t) (gradRows (grid0.coords t) scM0_0 (grad0 m c)) (coefX m c)

/-- The codes of the first, -/
abbrev codes1 (c : Dev nD) (t : Fin cfg0.N) : S64x8192.Idx → BitVec 8 := codes (Scalar.ofBits (F := Ideal) .f32 0x3F800000#32) (step1 m c t)
/-- their scales, -/
abbrev scales1 (c : Dev nD) (t : Fin cfg0.N) : S64x64.Idx → EReal :=
  scales (Scalar.ofBits (F := Ideal) .f32 0x3F800000#32) (Scalar.ofBits (F := Ideal) .f32 0x3F800000#32) (step1 m c t)
/-- the codes of the second, -/
abbrev codes2 (c : Dev nD) (t : Fin cfg0.N) : S64x8192.Idx → BitVec 8 := codes (Scalar.ofBits (F := Ideal) .f32 0x41200000#32) (step2 m c t)
/-- and their scales. -/
abbrev scales2 (c : Dev nD) (t : Fin cfg0.N) : S64x64.Idx → EReal :=
  scales (Scalar.ofBits (F := Ideal) .f32 0x41200000#32) (Named.named (F := Ideal) κ "tenth" (φ := .f32) 0x3DCCCCCD#32) (step2 m c t)

theorem read_w8 (c : Dev nD) (t : Fin cfg0.N) (f : (ms0_8 t).view.ty.Contents (Elt Ideal)) :
    (ms0_8 t).view.read (Elt Ideal) ((ms0_8 t).view.writes (Elt Ideal) f (storedAt m c t).2.1) = codes1 m c t := by
  refine (read_mcodes _ _ _ _ _ _ _ _ _ _ _ _ _ _ _ _ _ _ _ _ _ _ _ _ _ _ _ _ _ _ _ _ _ _ _ _ _ _ _ _ _ _ _ _ _ _ _ f).trans ?_
  unfold M1
  rw [(hs0_3 t).read_unread, (hs0_4 t).read_unread]

theorem read_w9 (c : Dev nD) (t : Fin cfg0.N) (f : (ms0_9 t).view.ty.Contents (Elt Ideal)) :
    (ms0_9 t).view.read (Elt Ideal) ((ms0_9 t).view.writes (Elt Ideal) f (storedAt m c t).2.2.1) = scales1 m c t := by
  refine (read_mscales _ _ _ _ _ _ _ _ _ _ _ _ _ _ _ _ _ _ _ _ _ _ _ _ _ _ _ _ _ _ _ _ _ _ _ _ _ _ _ _ _ _ _ _ _ _ _ f).trans ?_
  unfold M1
  rw [(hs0_3 t).read_unread, (hs0_4 t).read_unread]

theorem read_w10 (c : Dev nD) (t : Fin cfg0.N) (f : (ms0_10 t).view.ty.Contents (Elt Ideal)) :
    (ms0_10 t).view.read (Elt Ideal) ((ms0_10 t).view.writes (Elt Ideal) f (storedAt m c t).2.2.2.1) = codes2 m c t := by
  refine (read_vcodes _ _ _ _ _ _ _ _ _ _ _ _ _ _ _ _ _ _ _ _ _ _ _ _ _ _ _ _ _ _ _ _ _ _ _ _ _ _ _ _ _ _ _ _ _ _ _ f).trans ?_
  unfold M2
  rw [(hs0_5 t).read_unread, (hs0_6 t).read_unread]

theorem read_w11 (c : Dev nD) (t : Fin cfg0.N) (f : (ms0_11 t).view.ty.Contents (Elt Ideal)) :
    (ms0_11 t).view.read (Elt Ideal) ((ms0_11 t).view.writes (Elt Ideal) f (storedAt m c t).2.2.2.2) = scales2 m c t := by
  refine (read_vscales _ _ _ _ _ _ _ _ _ _ _ _ _ _ _ _ _ _ _ _ _ _ _ _ _ _ _ _ _ _ _ _ _ _ _ _ _ _ _ _ _ _ _ _ _ _ _ f).trans ?_
  unfold M2
  rw [(hs0_5 t).read_unread, (hs0_6 t).read_unread]

/-- The output windows this certificate FORGETS (7): nothing reads what the kernel leaves in them, so nothing
    of it is named (Lib/Pipeline/Dat.lean `Dat.toRForget`). -/
def forgets0 : Fin 12 → Bool := fun w => w.val == 7

/-- The proof data of the one pipeline on core `c`: the arrays as the region finds them (`V`); after the body at
    point `t` each input's buffer at its block and the outputs, FORGOTTEN, at `Dat.unnamed`; the invariant
    `PhiS`; nothing owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => codes1 m c t
    | ⟨9, _⟩ => scales1 m c t
    | ⟨10, _⟩ => codes2 m c t
    | ⟨11, _⟩ => scales2 m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_11 (c : Dev nD) (t : Fin cfg0.N) : (dats m 0 c).after 11 t = scales2 m c t := by dsimp only [dats]
theorem after0_10 (c : Dev nD) (t : Fin cfg0.N) : (dats m 0 c).after 10 t = codes2 m c t := by dsimp only [dats]
theorem after0_9 (c : Dev nD) (t : Fin cfg0.N) : (dats m 0 c).after 9 t = scales1 m c t := by dsimp only [dats]
theorem after0_8 (c : Dev nD) (t : Fin cfg0.N) : (dats m 0 c).after 8 t = codes1 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄G :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

/-- The body at any point: `step_at`, what it stores forgotten. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6]
  rw [show (dats m 0 c).Φ t.succ = Kept m c from rfl, PhiS_castSucc m c t,
    after0_0, after0_1, after0_2, after0_3, after0_4, after0_5, after0_6, after0_8, after0_9, after0_10, after0_11]
  unfold Dat.owesAt Pipeline.owesWithin
  rw [show (dats m 0 c).owed t.castSucc = 0 from rfl, show (dats m 0 c).owed t.succ = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩, ⟨%d11, H11⟩⟩
  iapply (step_at m c t) $$ [HP HW H0 H1 H2 H3 H4 H5 H6 H7 H8 H9 H10 H11]
  · isplitl [HP]; · iexact HP
    isplitl [HW]; · iexists W; iexact HW
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexists _; iexact H8
    isplitl [H9]; · iexists _; iexact H9
    isplitl [H10]; · iexists _; iexact H10
    iexists _; iexact H11
  iintro ⟨HP, ⟨%W', HW'⟩, ⟨H0, H1, H2, H3, H4, H5, H6⟩, ⟨%f7, H7⟩, ⟨%f8, H8⟩, ⟨%f9, H9⟩, ⟨%f10, H10⟩, ⟨%f11, H11⟩⟩
  isplitl [HP]; · iexact HP
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns
  isplitl [H7]; · iexists _; iexists _; isplitr; swap; iexact H7; ipureintro; rfl
  isplitl [H8]; · iexists _; isplitr; swap; iexact H8; ipureintro; exact read_w8 m c t f8
  isplitl [H9]; · iexists _; isplitr; swap; iexact H9; ipureintro; exact read_w9 m c t f9
  isplitl [H10]; · iexists _; isplitr; swap; iexact H10; ipureintro; exact read_w10 m c t f10
  iexists _; isplitr; swap; iexact H11; ipureintro; exact read_w11 m c t f11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq, whole_pts, show (iprop(∃ d, owns (c : Thread nD τ) scM0_0 fullShare d) : sProp 𝕄G) = _ from exists_whole_pts c cc0_scratch0,
    show (iprop(∃ d, owns (c : Thread nD τ) scM0_1 fullShare d) : sProp 𝕄G) = _ from exists_whole_pts c cc0_scratch1]
  unfold Kept
  iintro ⟨Hh, HS0, HS1, Hg, Hq⟩
  isplitl [HS0 HS1]
  · isplitl [HS0]
    · iexists _; iexact HS0
    iexists _; iexact HS1
  isplitl [Hg]; · iexact Hg
  isplitl [Hq]; · iexact Hq
  iexact Hh

/-- The same after the last point. -/
theorem hout (c : Dev nD) : (dats m 0 c).Φ (Fin.last cfg0.N) ⊢ Pipeline.ΦD osem0 spec0 H0 (V m) c :=
  Phi_out m c _ (by rw [Fin.val_last]; have : cfg0.N = 44 := N_0; omega)

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN output (window 7) (Lib/Pipeline/Frame.lean `RDat.FramePost` over the proof data with that window
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

end Cert.KernelIdeal.Named

end
-- ==== Proof.KernelIdeal.Arrays.lean ====
/- The four quantised results after the launch, as the codes and scales of the whole moments. -/
module

public import proofs.«01_k».proof.Proof.KernelIdeal.Named
public import Idealize.ShloMosaic.Lib.Pipeline.ValueKit

@[expose] public section

set_option maxRecDepth 16384

noncomputable section

namespace Cert.KernelIdeal.Named

open Cert.KernelIdeal.Gen Cert.KernelIdeal.Own
open Cert.Quant (codes scales blk col)
open Idealize.ShloMosaic Idealize.ShloMosaic.TcCoe

variable (m : (ℓ : Loc nD τ sig) → Buf (Elt Ideal) ℓ) (ρ : Dev nD → PrngReg)

/-- The first moments of every row, -/
abbrev whole1 (c : Dev nD) : Fin 2816 → Fin 8192 → EReal :=
  mom1 (n := 2816) (V m c main_arg2) (V m c main_arg3) (fun p q => V m c main_arg1 (ix2 p q)) (coefX m c)
/-- and the second. -/
abbrev whole2 (c : Dev nD) : Fin 2816 → Fin 8192 → EReal :=
  mom2 (n := 2816) (V m c main_arg4) (V m c main_arg5) (fun p q => V m c main_arg1 (ix2 p q)) (coefX m c)

/-! ## Where a step's rows lie in the arrays -/

theorem ext2 {a b : ℕ} {x : (⟨2, ![a, b]⟩ : Shape).Idx} {r : Fin a} {l : Fin b} (h0 : (x 0).val = r.val) (h1 : (x 1).val = l.val) : x = ix2 r l := by
  funext k
  apply Fin.ext
  match k with
  | 0 => exact h0
  | 1 => exact h1

theorem rows (i : grid0.Coords) (p : Fin 64) : (BitVec.ofNat 32 (i 0).val).toNat * 64 + 1 * p.val = (grow i p).val := by
  have h : (i 0).val < 44 := (i 0).isLt
  rw [BitVec.toNat_ofNat, Nat.mod_eq_of_lt (by omega)]
  show (i 0).val * 64 + 1 * p.val = 64 * (i 0).val + p.val
  omega

theorem cols (n q : ℕ) : (0#32).toNat * n + 1 * q = q := by
  show 0 * n + 1 * q = q
  omega

theorem at3 (t : Fin cfg0.N) (p : Fin 64) (q : Fin 8192) : (win0_3.blk t).view.emb (ix2 p q) = ix2 (grow (grid0.coords t) p) q :=
  ext2 (rows (grid0.coords t) p) (cols 8192 q.val)
theorem at4 (t : Fin cfg0.N) (p : Fin 64) (q : Fin 64) : (win0_4.blk t).view.emb (ix2 p q) = ix2 (grow (grid0.coords t) p) q :=
  ext2 (rows (grid0.coords t) p) (cols 64 q.val)
theorem at5 (t : Fin cfg0.N) (p : Fin 64) (q : Fin 8192) : (win0_5.blk t).view.emb (ix2 p q) = ix2 (grow (grid0.coords t) p) q :=
  ext2 (rows (grid0.coords t) p) (cols 8192 q.val)
theorem at6 (t : Fin cfg0.N) (p : Fin 64) (q : Fin 64) : (win0_6.blk t).view.emb (ix2 p q) = ix2 (grow (grid0.coords t) p) q :=
  ext2 (rows (grid0.coords t) p) (cols 64 q.val)
theorem at8 (t : Fin cfg0.N) (p : Fin 64) (q : Fin 8192) : (win0_8.blk t).view.emb (ix2 p q) = ix2 (grow (grid0.coords t) p) q :=
  ext2 (rows (grid0.coords t) p) (cols 8192 q.val)
theorem at9 (t : Fin cfg0.N) (p : Fin 64) (q : Fin 64) : (win0_9.blk t).view.emb (ix2 p q) = ix2 (grow (grid0.coords t) p) q :=
  ext2 (rows (grid0.coords t) p) (cols 64 q.val)
theorem at10 (t : Fin cfg0.N) (p : Fin 64) (q : Fin 8192) : (win0_10.blk t).view.emb (ix2 p q) = ix2 (grow (grid0.coords t) p) q :=
  ext2 (rows (grid0.coords t) p) (cols 8192 q.val)
theorem at11 (t : Fin cfg0.N) (p : Fin 64) (q : Fin 64) : (win0_11.blk t).view.emb (ix2 p q) = ix2 (grow (grid0.coords t) p) q :=
  ext2 (rows (grid0.coords t) p) (cols 64 q.val)

theorem grad_at (c : Dev nD) (i : grid0.Coords) (p : Fin 64) (q : Fin 8192) :
    gradRows i scM0_0 (grad0 m c) p q = V m c main_arg1 (ix2 (grow i p) q) := by
  unfold gradRows
  rw [(Memref.isWhole_whole _).read_unread]
  rfl

/-! ## A step's moments are the whole's, at its rows -/

theorem step1_at (c : Dev nD) (t : Fin cfg0.N) (p : Fin 64) (q : Fin 8192) : step1 m c t p q = whole1 m c (grow (grid0.coords t) p) q := by
  have h3 : iblk m c 3 t (ix2 p q) = V m c main_arg2 (ix2 (grow (grid0.coords t) p) q) := congrArg (V m c main_arg2) (at3 t p q)
  have h4 : iblk m c 4 t (ix2 p (blk q)) = V m c main_arg3 (ix2 (grow (grid0.coords t) p) (blk q)) := congrArg (V m c main_arg3) (at4 t p (blk q))
  unfold step1 whole1 mom1
  beta_reduce
  rw [h3, h4, grad_at]

theorem step2_at (c : Dev nD) (t : Fin cfg0.N) (p : Fin 64) (q : Fin 8192) : step2 m c t p q = whole2 m c (grow (grid0.coords t) p) q := by
  have h5 : iblk m c 5 t (ix2 p q) = V m c main_arg4 (ix2 (grow (grid0.coords t) p) q) := congrArg (V m c main_arg4) (at5 t p q)
  have h6 : iblk m c 6 t (ix2 p (blk q)) = V m c main_arg5 (ix2 (grow (grid0.coords t) p) (blk q)) := congrArg (V m c main_arg5) (at6 t p (blk q))
  unfold step2 whole2 mom2
  beta_reduce
  rw [h5, h6, grad_at]

/-- The codes of some rows of an array are the array's codes there, -/
theorem codes_rows (one : EReal) (S : Fin 64 → Fin 8192 → EReal) (M : Fin 2816 → Fin 8192 → EReal) (i : grid0.Coords)
    (h : ∀ p q, S p q = M (grow i p) q) (p : Fin 64) (q : Fin 8192) : codes one S (ix2 p q) = codes one M (ix2 (grow i p) q) := by
  show Quant.code (S p q) (Quant.scale one fun l => S p (col (blk q) l)) = Quant.code (M (grow i p) q) (Quant.scale one fun l => M (grow i p) (col (blk q) l))
  simp only [h]

/-- and so are the scales. -/
theorem scales_rows (one gain : EReal) (S : Fin 64 → Fin 8192 → EReal) (M : Fin 2816 → Fin 8192 → EReal) (i : grid0.Coords)
    (h : ∀ p q, S p q = M (grow i p) q) (p : Fin 64) (b : Fin 64) : scales one gain S (ix2 p b) = scales one gain M (ix2 (grow i p) b) := by
  show Quant.scale one (fun l => S p (col b l)) * gain = Quant.scale one (fun l => M (grow i p) (col b l)) * gain
  simp only [h]

/-! ## The arrays -/

theorem arr8 (c : Dev nD) : (dats m 0 c).arrAt 8 cfg0.N = codes (Scalar.ofBits (F := Ideal) .f32 0x3F800000#32) (whole1 m c) := by
  refine (dats m 0 c).arrAt_eq_of_covers 8 _ (by decide +kernel) fun t hf y => ?_
  blk_simp
  rw [after0_8]
  obtain ⟨p, q, rfl⟩ := pair (a := 64) (b := 8192) y
  exact (codes_rows _ _ _ _ (step1_at m c t) p q).trans (congrArg (codes _ (whole1 m c)) (at8 t p q).symm)

theorem arr9 (c : Dev nD) : (dats m 0 c).arrAt 9 cfg0.N
    = scales (Scalar.ofBits (F := Ideal) .f32 0x3F800000#32) (Scalar.ofBits (F := Ideal) .f32 0x3F800000#32) (whole1 m c) := by
  refine (dats m 0 c).arrAt_eq_of_covers 9 _ (by decide +kernel) fun t hf y => ?_
  blk_simp
  rw [after0_9]
  obtain ⟨p, q, rfl⟩ := pair (a := 64) (b := 64) y
  exact (scales_rows _ _ _ _ _ (step1_at m c t) p q).trans (congrArg (scales _ _ (whole1 m c)) (at9 t p q).symm)

theorem arr10 (c : Dev nD) : (dats m 0 c).arrAt 10 cfg0.N = codes (Scalar.ofBits (F := Ideal) .f32 0x41200000#32) (whole2 m c) := by
  refine (dats m 0 c).arrAt_eq_of_covers 10 _ (by decide +kernel) fun t hf y => ?_
  blk_simp
  rw [after0_10]
  obtain ⟨p, q, rfl⟩ := pair (a := 64) (b := 8192) y
  exact (codes_rows _ _ _ _ (step2_at m c t) p q).trans (congrArg (codes _ (whole2 m c)) (at10 t p q).symm)

theorem arr11 (c : Dev nD) : (dats m 0 c).arrAt 11 cfg0.N
    = scales (Scalar.ofBits (F := Ideal) .f32 0x41200000#32) (Named.named (F := Ideal) κ "tenth" (φ := .f32) 0x3DCCCCCD#32) (whole2 m c) := by
  refine (dats m 0 c).arrAt_eq_of_covers 11 _ (by decide +kernel) fun t hf y => ?_
  blk_simp
  rw [after0_11]
  obtain ⟨p, q, rfl⟩ := pair (a := 64) (b := 64) y
  exact (scales_rows _ _ _ _ _ (step2_at m c t) p q).trans (congrArg (scales _ _ (whole2 m c)) (at11 t p q).symm)

end Cert.KernelIdeal.Named

end
-- ==== Proof.KernelIdeal.Sum.lean ====
/- The first step's sum of squares, over the extended reals: every entry of the gradient once. -/
module

public import proofs.«01_k».proof.Proof.KernelIdeal.Step0
public import Idealize.ShloMosaic.Lib.Pointwise
public import Idealize.ShloMosaic.Lib.Pipeline.ValueKit

@[expose] public section

set_option maxRecDepth 65536
set_option maxHeartbeats 4000000

noncomputable section

namespace Cert.KernelIdeal.Own

open Cert.KernelIdeal.Gen
open Idealize.ShloMosaic Idealize.ShloMosaic.TcCoe Idealize.ShloMosaic.Tactic

section Trip
variable {F : FTy → Type} [FloatOps F] [Named F]

/-- Sixteen rows of one eighth of the columns, as loaded. -/
abbrev rowsAt (arg14 : Memref sig .tc .vmem S2816x8192 .bf16) (X_arg14 : BufTy.Contents (Elt F) arg14.view.ty) (off : Fin 2 → ℕ)
    (h : ∀ a, off a + S16x1024.size a ≤ S2816x8192.size a) : Vec F S16x1024 .bf16 :=
  arg14.view.readAt (Elt F) (Rect.unit (s := S2816x8192) off S16x1024.size h).toLoadRect X_arg14

variable (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt F .f32) (k0_t1 : Fin k0_t1_loop.trips) (arg17 : BitVec 32) (X_arg14 : BufTy.Contents (Elt F) arg14.view.ty) (k : Fin k0_t2_loop.trips)

theorem trip_rows (acc : FVec F S8x1024 .f32) : tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k acc
    = k0_pay9 v568 (k0_pay9 v568 (k0_pay9 v568 (k0_pay9 v568 (k0_pay9 v568 (k0_pay9 v568 (k0_pay9 v568 (k0_pay9 v568 acc (rowsAt arg14 X_arg14 (k0_off3 k0_t1 k) (k0_off3_inb i k0_t1 k k0_h1))) (rowsAt arg14 X_arg14 (k0_off4 k0_t1 k) (k0_off4_inb i k0_t1 k k0_h1))) (rowsAt arg14 X_arg14 (k0_off5 k0_t1 k) (k0_off5_inb i k0_t1 k k0_h1))) (rowsAt arg14 X_arg14 (k0_off6 k0_t1 k) (k0_off6_inb i k0_t1 k k0_h1))) (rowsAt arg14 X_arg14 (k0_off7 k0_t1 k) (k0_off7_inb i k0_t1 k k0_h1))) (rowsAt arg14 X_arg14 (k0_off8 k0_t1 k) (k0_off8_inb i k0_t1 k k0_h1))) (rowsAt arg14 X_arg14 (k0_off9 k0_t1 k) (k0_off9_inb i k0_t1 k k0_h1))) (rowsAt arg14 X_arg14 (k0_off10 k0_t1 k) (k0_off10_inb i k0_t1 k k0_h1)) := by
  unfold tripR_k0_t2 trip_k0_t2
  sl_kernel_rfl

end Trip

/-! ## Sums by blocks -/

/-- A sum over a range, in blocks of `w`. -/
theorem sum_blocks (f : ℕ → EReal) (w : ℕ) : ∀ n, ∑ q ∈ Finset.range (w * n), f q = ∑ b ∈ Finset.range n, ∑ l ∈ Finset.range w, f (w * b + l)
  | 0 => by rw [Nat.mul_zero, Finset.range_zero, Finset.sum_empty, Finset.sum_empty]
  | n + 1 => by rw [Nat.mul_succ, Finset.sum_range_add, sum_blocks f w n, Finset.sum_range_succ]

/-- The square of a gradient times the reciprocal of the loss scale. -/
def sqr (inv g : EReal) : EReal := g * inv * (g * inv)

/-- Everything in an accumulator. -/
def total (acc : FVec Ideal S8x1024 .f32) : EReal := ∑ a : Fin 8, ∑ l : Fin 1024, acc (ix2 a l)

/-- The reciprocal of the loss scale. -/
abbrev recip (v : EReal) : EReal := Ideal.div 1 v

theorem pay9_at (v : EReal) (acc : FVec Ideal S8x1024 .f32) (x : Vec Ideal S16x1024 .bf16) (a : Fin 8) (l : Fin 1024) :
    k0_pay9 (F := Ideal) v acc x (ix2 a l)
      = acc (ix2 a l) + (sqr (recip v) (x (ix2 ⟨a.val, by omega⟩ l)) + sqr (recip v) (x (ix2 ⟨8 + a.val, by omega⟩ l))) := by
  unfold k0_pay9 k0_pay7 sqr
  pointwise

theorem total_pay9 (v : EReal) (acc : FVec Ideal S8x1024 .f32) (x : Vec Ideal S16x1024 .bf16) (G : ℕ → ℕ → EReal)
    (hx : ∀ r l, x (ix2 r l) = G r.val l.val) :
    total (k0_pay9 (F := Ideal) v acc x) = total acc + ∑ r ∈ Finset.range 16, ∑ l ∈ Finset.range 1024, sqr (recip v) (G r l) := by
  unfold total
  simp only [pay9_at, hx, Finset.sum_add_distrib]
  congr 1
  rw [show (16 : ℕ) = 8 + 8 from rfl, Finset.sum_range_add, Finset.sum_range, Finset.sum_range]
  simp only [Finset.sum_range]

theorem off3_eq : ∀ k1 k2, k0_off3 k1 k2 = ![64 * k1.val + 16 * k2.val, 0] := by decide +kernel
theorem off4_eq : ∀ k1 k2, k0_off4 k1 k2 = ![64 * k1.val + 16 * k2.val, 1024] := by decide +kernel
theorem off5_eq : ∀ k1 k2, k0_off5 k1 k2 = ![64 * k1.val + 16 * k2.val, 2048] := by decide +kernel
theorem off6_eq : ∀ k1 k2, k0_off6 k1 k2 = ![64 * k1.val + 16 * k2.val, 3072] := by decide +kernel
theorem off7_eq : ∀ k1 k2, k0_off7 k1 k2 = ![64 * k1.val + 16 * k2.val, 4096] := by decide +kernel
theorem off8_eq : ∀ k1 k2, k0_off8 k1 k2 = ![64 * k1.val + 16 * k2.val, 5120] := by decide +kernel
theorem off9_eq : ∀ k1 k2, k0_off9 k1 k2 = ![64 * k1.val + 16 * k2.val, 6144] := by decide +kernel
theorem off10_eq : ∀ k1 k2, k0_off10 k1 k2 = ![64 * k1.val + 16 * k2.val, 7168] := by decide +kernel

/-- The entries of a matrix as a function of all pairs, zero outside. -/
def ext (X : S2816x8192.Idx → EReal) (p q : ℕ) : EReal := if h : p < 2816 ∧ q < 8192 then X (ix2 ⟨p, h.1⟩ ⟨q, h.2⟩) else 0

theorem rowsAt_at (arg14 : Memref sig .tc .vmem S2816x8192 .bf16) (X : BufTy.Contents (Elt Ideal) arg14.view.ty) (off : Fin 2 → ℕ) (h) (R Q : ℕ)
    (ho : off = ![R, Q]) (r : Fin 16) (l : Fin 1024) :
    rowsAt (F := Ideal) arg14 X off h (ix2 r l) = ext (arg14.view.read (Elt Ideal) X) (R + r.val) (Q + l.val) := by
  subst ho
  have h0 : R + 16 ≤ 2816 := h 0
  have h1 : Q + 1024 ≤ 8192 := h 1
  unfold rowsAt ext
  rw [View.readAt_eq_ld, dif_pos ⟨by omega, by omega⟩]
  refine View.ld_unit_apply_of _ _ _ _ _ _ fun a => ?_
  match a with
  | 0 => rfl
  | 1 => rfl

section Loop

variable (𝒱 : Variants) (c : Dev nD) (bd : Option 𝒱.V) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (k0_h1 : k0_cond1 i = 1#1) (v568 : Elt Ideal .f32) (k0_t1 : Fin k0_t1_loop.trips) (arg17 : BitVec 32) (X_arg14 : BufTy.Contents (Elt Ideal) arg14.view.ty)

/-- One trip adds the squares of sixteen rows. -/
theorem total_trip (k : Fin k0_t2_loop.trips) (acc : FVec Ideal S8x1024 .f32) :
    total (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 k acc)
      = total acc + ∑ r ∈ Finset.range 16, ∑ q ∈ Finset.range 8192, sqr (recip v568) (ext (arg14.view.read (Elt Ideal) X_arg14) (64 * k0_t1.val + 16 * k.val + r) q) := by
  have hs : ∀ r, ∑ q ∈ Finset.range 8192, sqr (recip v568) (ext (arg14.view.read (Elt Ideal) X_arg14) (64 * k0_t1.val + 16 * k.val + r) q)
      = ∑ b ∈ Finset.range 8, ∑ l ∈ Finset.range 1024, sqr (recip v568) (ext (arg14.view.read (Elt Ideal) X_arg14) (64 * k0_t1.val + 16 * k.val + r) (1024 * b + l)) :=
    fun r => sum_blocks _ 1024 8
  simp only [hs]
  rw [Finset.sum_comm, trip_rows]
  rw [total_pay9 v568 _ _ (fun r l => ext (arg14.view.read (Elt Ideal) X_arg14) (64 * k0_t1.val + 16 * k.val + r) (7168 + l)) (rowsAt_at arg14 X_arg14 _ _ _ _ (off10_eq k0_t1 k))]
  rw [total_pay9 v568 _ _ (fun r l => ext (arg14.view.read (Elt Ideal) X_arg14) (64 * k0_t1.val + 16 * k.val + r) (6144 + l)) (rowsAt_at arg14 X_arg14 _ _ _ _ (off9_eq k0_t1 k))]
  rw [total_pay9 v568 _ _ (fun r l => ext (arg14.view.read (Elt Ideal) X_arg14) (64 * k0_t1.val + 16 * k.val + r) (5120 + l)) (rowsAt_at arg14 X_arg14 _ _ _ _ (off8_eq k0_t1 k))]
  rw [total_pay9 v568 _ _ (fun r l => ext (arg14.view.read (Elt Ideal) X_arg14) (64 * k0_t1.val + 16 * k.val + r) (4096 + l)) (rowsAt_at arg14 X_arg14 _ _ _ _ (off7_eq k0_t1 k))]
  rw [total_pay9 v568 _ _ (fun r l => ext (arg14.view.read (Elt Ideal) X_arg14) (64 * k0_t1.val + 16 * k.val + r) (3072 + l)) (rowsAt_at arg14 X_arg14 _ _ _ _ (off6_eq k0_t1 k))]
  rw [total_pay9 v568 _ _ (fun r l => ext (arg14.view.read (Elt Ideal) X_arg14) (64 * k0_t1.val + 16 * k.val + r) (2048 + l)) (rowsAt_at arg14 X_arg14 _ _ _ _ (off5_eq k0_t1 k))]
  rw [total_pay9 v568 _ _ (fun r l => ext (arg14.view.read (Elt Ideal) X_arg14) (64 * k0_t1.val + 16 * k.val + r) (1024 + l)) (rowsAt_at arg14 X_arg14 _ _ _ _ (off4_eq k0_t1 k))]
  rw [total_pay9 v568 _ _ (fun r l => ext (arg14.view.read (Elt Ideal) X_arg14) (64 * k0_t1.val + 16 * k.val + r) (0 + l)) (rowsAt_at arg14 X_arg14 _ _ _ _ (off3_eq k0_t1 k))]
  simp only [Finset.sum_range_succ (n := 7), Finset.sum_range_succ (n := 6), Finset.sum_range_succ (n := 5), Finset.sum_range_succ (n := 4), Finset.sum_range_succ (n := 3), Finset.sum_range_succ (n := 2), Finset.sum_range_succ (n := 1), Finset.sum_range_one]
  ac_rfl

/-- The loop over a window adds the squares of its rows before the `n`th trip's. -/
theorem total_window (init : FVec Ideal S8x1024 .f32) : ∀ n, n ≤ 4 →
    total (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init n)
      = total init + ∑ p ∈ Finset.range (16 * n), ∑ q ∈ Finset.range 8192, sqr (recip v568) (ext (arg14.view.read (Elt Ideal) X_arg14) (64 * k0_t1.val + p) q)
  | 0, _ => by rw [st_k0_t2_zero, Nat.mul_zero, Finset.range_zero, Finset.sum_empty, add_zero]
  | n + 1, h => by
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init ⟨n, h⟩
    rw [show st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_h1 v568 k0_t1 arg17 X_arg14 init (n + 1) = _ from e, total_trip, total_window init n (by omega), Nat.mul_succ, Finset.sum_range_add, add_assoc]
    simp only [Nat.add_assoc]

end Loop

section All

variable (c : Dev nD) (i : grid0.Coords) (arg1 : Memref sig .tc .smem S1 .i32) (harg1 : arg1.IsWhole) (arg2 : Memref sig .tc .smem S1 .f32) (harg2 : arg2.IsWhole) (arg3 : Memref sig .tc .hbm S2816x8192 .bf16) (harg3 : arg3.IsWhole) (arg4 : Memref sig .tc .vmem S64x8192 .f32) (harg4 : arg4.IsWhole) (arg5 : Memref sig .tc .vmem S64x8192 .i8) (harg5 : arg5.IsWhole) (arg6 : Memref sig .tc .vmem S64x64 .f32) (harg6 : arg6.IsWhole) (arg7 : Memref sig .tc .vmem S64x8192 .i8) (harg7 : arg7.IsWhole) (arg8 : Memref sig .tc .vmem S64x64 .f32) (harg8 : arg8.IsWhole) (arg9 : Memref sig .tc .vmem S64x8192 .f32) (harg9 : arg9.IsWhole) (arg10 : Memref sig .tc .vmem S64x8192 .i8) (harg10 : arg10.IsWhole) (arg11 : Memref sig .tc .vmem S64x64 .f32) (harg11 : arg11.IsWhole) (arg12 : Memref sig .tc .vmem S64x8192 .i8) (harg12 : arg12.IsWhole) (arg13 : Memref sig .tc .vmem S64x64 .f32) (harg13 : arg13.IsWhole) (arg14 : Memref sig .tc .vmem S2816x8192 .bf16) (harg14 : arg14.IsWhole) (arg15 : Memref sig .tc .vmem S8x128 .f32) (harg15 : arg15.IsWhole) (arg16 : DmaSems sig S44) (f3 : BufTy.Contents (Elt Ideal) arg3.view.ty) (k0_h1 : k0_cond1 i = 1#1) (v568 : EReal)

/-- The windows before the `n`th. -/
theorem total_squares : ∀ n, n ≤ 44 →
    total (squares (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 n)
      = ∑ p ∈ Finset.range (64 * n), ∑ q ∈ Finset.range 8192, sqr (recip v568) (ext (arg3.view.read (Elt Ideal) f3) p q)
  | 0, _ => by
    rw [squares, Nat.mul_zero, Finset.range_zero, Finset.sum_empty]
    unfold total k0_pay8
    pointwise
    simp
  | n + 1, h => by
    have hn : n < k0_t1_loop.trips := h
    rw [squares, dif_pos hn, show k0_t2_loop.trips = 4 from by decide, total_window _ _ _ _ _ _ _ _ _ _ _ _ _ _ _ _ _ _ _ _ _ _ _ _ _ _ _ _ _ _ _ _ _ _ _ _ _ _ _ _ _ 4 (Nat.le_refl 4),
      total_squares n (by omega), show 16 * 4 = 64 from rfl, show 64 * (n + 1) = 64 * n + 64 from rfl, Finset.sum_range_add]
    unfold landed
    rw [harg14.read_unread]

/-- The coefficient: the smaller of one and the reciprocal of the norm, over the loss scale. -/
def coefOf (X : S2816x8192.Idx → EReal) (v : EReal) : EReal :=
  min 1 (Ideal.div 1 (Ideal.sqrt (∑ p : Fin 2816, ∑ q : Fin 8192, sqr (recip v) (X (ix2 p q))))) * recip v

theorem pay10_at (v : EReal) (acc : FVec Ideal S8x1024 .f32) (a : Fin 8) (l : Fin 128) :
    k0_pay10 (F := Ideal) v acc (ix2 a l) = min 1 (Ideal.div 1 (Ideal.sqrt (total acc))) * recip v := by
  unfold k0_pay10 k0_pay7 total
  pointwise

theorem total_all : total (squares (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 44) = ∑ p : Fin 2816, ∑ q : Fin 8192, sqr (recip v568) (arg3.view.read (Elt Ideal) f3 (ix2 p q)) := by
  rw [total_squares c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 f3 k0_h1 v568 44 (Nat.le_refl 44), show 64 * 44 = 2816 from rfl, Finset.sum_range]
  refine Finset.sum_congr rfl fun p _ => ?_
  rw [Finset.sum_range]
  refine Finset.sum_congr rfl fun q _ => ?_
  unfold ext
  rw [dif_pos ⟨p.isLt, q.isLt⟩]

end All

end Cert.KernelIdeal.Own

end
-- ==== Proof.KernelIdeal.Coef.lean ====
/- The coefficient every step reads, as the whole gradient's clipping factor over the loss scale, times a tenth. -/
module

public import proofs.«01_k».proof.Proof.KernelIdeal.Named
public import proofs.«01_k».proof.Proof.KernelIdeal.Sum
public import Idealize.ShloMosaic.Lib.Pipeline.ValueKit
public import Idealize.ShloMosaic.Lib.Claim

@[expose] public section

set_option maxRecDepth 65536
set_option maxHeartbeats 4000000

noncomputable section

namespace Cert.KernelIdeal.Named

open Cert.KernelIdeal.Gen Cert.KernelIdeal.Own
open Idealize.ShloMosaic Idealize.ShloMosaic.TcCoe Idealize.ShloMosaic.Tactic

variable (m : (ℓ : Loc nD τ sig) → Buf (Elt Ideal) ℓ) (ρ : Dev nD → PrngReg)

/-- The loss scale. -/
abbrev ls (c : Dev nD) : EReal := m ((c : Thread nD τ).loc main_arg7) (fun a => a.elim0)

/-- The first step's copy of it. -/
theorem word_ls (c : Dev nD) : word (ms0_1 first) ((hs0_1 first).unread (Val := Elt Ideal) (iblk m c 1 first)) = ls m c := by
  unfold word
  rw [View.readAt_eq_ld, (hs0_1 first).read_unread]
  show V m c main_v1 _ = _
  entry_read
  pointwise
  exact congrArg _ (funext fun a => a.elim0)

theorem pay867_at (x : Vec Ideal S1x1 .f32) : k0_pay867 (F := Ideal) x (ix2 0 0) = x (ix2 0 0) * Named.named (F := Ideal) κ "tenth" (φ := .f32) 0x3DCCCCCD#32 := by
  unfold k0_pay867
  pointwise

theorem coefWord_at (Y : FVec Ideal S8x128 .f32) :
    coefWord scM0_1 ((Memref.isWhole_whole cc0_scratch1).unread (Val := Elt Ideal) Y) (ix2 0 0) = Y (ix2 0 0) := by
  unfold coefWord
  rw [View.readAt_eq_ld, (Memref.isWhole_whole cc0_scratch1).read_unread]
  refine congrArg Y (funext fun a => Fin.ext ?_)
  match a with
  | 0 => rfl
  | 1 => rfl

theorem pay803_eq (Y : FVec Ideal S8x128 .f32) : k0_pay803 (F := Ideal) Y (ix2 0 0) = Y (ix2 0 0) := by
  unfold k0_pay803
  pointwise

theorem coefX_eq (c : Dev nD) : coefX m c = coefOf (V m c main_arg1) (ls m c) * Named.named (F := Ideal) κ "tenth" (φ := .f32) 0x3DCCCCCD#32 := by
  unfold coefX
  rw [pay867_at]
  refine congrArg (· * _) ?_
  unfold coef0
  rw [coefWord_at]
  unfold coefVec
  rw [pay803_eq, pay10_at, total_all, word_ls]
  rfl

end Cert.KernelIdeal.Named

end
-- ==== Proof.KernelIdeal.Final.lean ====
/- The launch over the extended reals, its four quantised results read off the final memory. -/
module

public import proofs.«01_k».proof.Proof.KernelIdeal.Arrays
public import proofs.«01_k».proof.Proof.KernelIdeal.Coef
public import proofs.«01_k».proof.Proof.KernelIdeal.Frame

@[expose] public section

set_option maxRecDepth 16384

noncomputable section

namespace Cert.KernelIdeal.Named

open Cert.KernelIdeal.Gen Cert.KernelIdeal.Own
open Cert.Quant (codes scales)
open Idealize.ShloMosaic Idealize.ShloMosaic.TcCoe Idealize.SL.RA Idealize.SL.Sem
open Idealize.ShloMosaic.Pipeline (Dat Cfg)

variable (m : (ℓ : Loc nD τ sig) → Buf (Elt Ideal) ℓ) (ρ : Dev nD → PrngReg)

/-- A window that is not forgotten ends at the array its data name. -/
theorem arr_of {Λ : Idealize.SL.Sem.Labels} {cfg : Cfg sig Λ} {U : Type} [URA U] {dat : (c : Dev nD) → Dat τ (Elt Ideal) Unit ℕ U ℕ cfg c} {fgt : Fin cfg.W → Bool}
    {V : (c : Dev nD) → (b : Ref sig .tc) → Buf (Elt Ideal) ((c.tc : Thread nD τ).loc b)} {r : PUnit × MemSt nD τ sig (Elt Ideal)}
    (h : Pipeline.RDat.FramePost cfg (fun c => (dat c).toRForget fgt) V r) (c : Dev nD) (w : Fin cfg.W) (hw : fgt w = false) :
    r.2.mem ((cfg.spec w).arr.view.loc (c.tc : Thread nD τ)) = (dat c).arrAt w cfg.N :=
  ((dat c).toRForget_arrAt_iff hw _ _).1 ((h c).1 w)

/-- What the launch leaves in the four quantised results, its arguments as they were. -/
def Ends (r : PUnit × MemSt nD τ sig (Elt Ideal)) (c : Dev nD) : Prop :=
  r.2.mem ((c.tc : Thread nD τ).loc main_v2_1) = codes (Scalar.ofBits (F := Ideal) .f32 0x3F800000#32) (whole1 m c)
  ∧ r.2.mem ((c.tc : Thread nD τ).loc main_v2_2) = scales (Scalar.ofBits (F := Ideal) .f32 0x3F800000#32) (Scalar.ofBits (F := Ideal) .f32 0x3F800000#32) (whole1 m c)
  ∧ r.2.mem ((c.tc : Thread nD τ).loc main_v2_3) = codes (Scalar.ofBits (F := Ideal) .f32 0x41200000#32) (whole2 m c)
  ∧ r.2.mem ((c.tc : Thread nD τ).loc main_v2_4)
      = scales (Scalar.ofBits (F := Ideal) .f32 0x41200000#32) (Named.named (F := Ideal) κ "tenth" (φ := .f32) 0x3DCCCCCD#32) (whole2 m c)

theorem ends_of (r : PUnit × MemSt nD τ sig (Elt Ideal)) (h : Pipeline.RDat.FramePost (cfgs 0) (fun c => (dats m 0 c).toRForget forgets0) (V m) r) (c : Dev nD) :
    Ends m r c :=
  ⟨(arr_of h c 8 rfl).trans (arr8 m c), (arr_of h c 9 rfl).trans (arr9 m c), (arr_of h c 10 rfl).trans (arr10 m c), (arr_of h c 11 rfl).trans (arr11 m c)⟩

theorem run_values : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ ∀ c : Dev nD, Ends m r c) :=
  θ_run_and (Own.unchanged m ρ) ((θ_run defs _ _).mono (fun r h c => ends_of m r h c) (run_main m ρ))

end Cert.KernelIdeal.Named

end
-- ==== Proof.Reference.Moments.lean ====
/- The reference's values, entry by entry, over the extended reals. -/
module

public import proofs.«01_k».proof.Proof.Gen.ReferenceIdeal.Value
public import proofs.«01_k».proof.Proof.Quant
public import Idealize.ShloMosaic.Lib.Pipeline.ValueKit

@[expose] public section

set_option maxRecDepth 65536
set_option maxHeartbeats 4000000

noncomputable section

namespace Cert.ReferenceIdeal.Own

open Cert.ReferenceIdeal.Gen
open Idealize.ShloMosaic Idealize.ShloMosaic.TcCoe
open Cert.Quant (col blk codes scale top code)

/-- The factor that brings the gradient's norm, the loss scale taken off, down to one. -/
def clip (G : S2816x8192.Idx → EReal) (v : EReal) : EReal :=
  min 1 (Ideal.div 1 (Ideal.sqrt (∑ p : Fin 2816, ∑ q : Fin 8192, Ideal.div (G (ix2 p q)) v * Ideal.div (G (ix2 p q)) v)))

/-- The clipped gradient. -/
def clipped (G : S2816x8192.Idx → EReal) (v : EReal) (p : Fin 2816) (q : Fin 8192) : EReal := Ideal.div (G (ix2 p q)) v * clip G v

/-- The first moments -/
def mom1 (mc : S2816x8192.Idx → BitVec 8) (ms : S2816x64.Idx → EReal) (G : S2816x8192.Idx → EReal) (v : EReal) : Fin 2816 → Fin 8192 → EReal :=
  fun p q => Ideal.ofBits .f32 0x3F666666#32 * (FloatOps.sitofp (F := Ideal) .f32 (mc (ix2 p q)) * ms (ix2 p (blk q)))
    + Named.named (F := Ideal) κ "tenth" (φ := .f32) 0x3DCCCCCD#32 * clipped G v p q

/-- and the second. -/
def mom2 (vc : S2816x8192.Idx → BitVec 8) (vs : S2816x64.Idx → EReal) (G : S2816x8192.Idx → EReal) (v : EReal) : Fin 2816 → Fin 8192 → EReal :=
  fun p q => (1 - Named.named (F := Ideal) κ "thousandth" (φ := .f32) 0x3A83126F#32) * (FloatOps.sitofp (F := Ideal) .f32 (vc (ix2 p q)) * vs (ix2 p (blk q)))
    + Named.named (F := Ideal) κ "thousandth" (φ := .f32) 0x3A83126F#32 * (clipped G v p q * clipped G v p q)

theorem pay5_at (G : Vec Ideal S2816x8192 .bf16) (L : Vec Ideal S1x1 .f32) (p : Fin 2816) (q : Fin 8192) :
    k0_pay5 (F := Ideal) G L (ix2 p q) = clipped G (L (ix2 0 0)) p q := by
  unfold k0_pay5 clipped clip
  pointwise
  rfl

theorem pay7_at (G : Vec Ideal S2816x8192 .bf16) (L : Vec Ideal S1x1 .f32) (mc : Vec Ideal S2816x8192 .i8) (ms : Vec Ideal S2816x64 .f32) (p : Fin 2816) (q : Fin 8192) :
    k0_pay7 (F := Ideal) G L mc ms (ix2 p q) = mom1 mc ms G (L (ix2 0 0)) p q := by
  unfold k0_pay7 mom1
  rw [← pay5_at]
  pointwise

theorem pay9_at (G : Vec Ideal S2816x8192 .bf16) (L : Vec Ideal S1x1 .f32) (vc : Vec Ideal S2816x8192 .i8) (vs : Vec Ideal S2816x64 .f32) (p : Fin 2816) (q : Fin 8192) :
    k0_pay9 (F := Ideal) (k0_pay5 G L) (k0_pay6 vc vs) k0_pay8 (ix2 p q) = mom2 vc vs G (L (ix2 0 0)) p q := by
  unfold k0_pay9 k0_pay8 k0_pay6 mom2
  rw [← pay5_at]
  pointwise

/-! ## The quantiser -/

theorem pay11_at (M : FVec Ideal S2816x8192 .f32) (p : Fin 2816) (b : Fin 64) (l : Fin 128) :
    k0_pay11 (F := Ideal) M (ix3 p b l) = M (ix2 p (col b l)) := by
  unfold k0_pay11
  pointwise
  exact congrArg (fun q => M (ix2 p q)) (Fin.ext (Nat.add_right_cancel_iff.2 (Nat.mul_comm _ _)))

theorem max_at (W : FVec Ideal S2816x64x128 .f32) (p : Fin 2816) (b : Fin 64) :
    multiReduction .maximumf [2] S2816x64 (absf W) 0xFF800000#32 reduces_S2816x64x128_S2816x64 (.inl rfl) rfl (ix2 p b) = top (fun l => W (ix3 p b l)) := by
  unfold top
  pointwise

theorem sel_at (W : FVec Ideal S2816x64 .f32) (p : Fin 2816) (b : Fin 64) :
    select (cmpf .oeq W (broadcast S2816x64 (Scalar.ofBits (F := Ideal) .f32 0x00000000#32))) (broadcast S2816x64 (Scalar.ofBits (F := Ideal) .f32 0x3F800000#32))
        (divf W (broadcast S2816x64 (Scalar.ofBits (F := Ideal) .f32 0x42FE0000#32))) (ix2 p b)
      = if W (ix2 p b) = 0 then 1 else Ideal.div (W (ix2 p b)) (Ideal.ofBits .f32 0x42FE0000#32) := by
  pointwise

theorem pay12_at (M : FVec Ideal S2816x8192 .f32) (p : Fin 2816) (b : Fin 64) :
    k0_pay12 (F := Ideal) M (ix2 p b) = scale 1 (fun l => M (ix2 p (col b l))) := by
  refine (sel_at _ p b).trans ?_
  rw [max_at]
  simp only [pay11_at]
  rfl

theorem quant_at (W : FVec Ideal S2816x64x128 .f32) (s : FVec Ideal S2816x64 .f32) (p : Fin 2816) (q : Fin 8192) :
    k0_pay1 (F := Ideal) W (shapeCast S2816x64x1 s shapeCasts_S2816x64_S2816x64x1) (ix2 p q)
      = code (W (ix3 p (blk q) ⟨q.val % 128, Nat.mod_lt _ (by decide)⟩)) (s (ix2 p (blk q))) := by
  unfold k0_pay1 code
  pointwise

theorem col_blk (q : Fin 8192) : col (blk q) ⟨q.val % 128, Nat.mod_lt _ (by decide)⟩ = q := Fin.ext (Nat.div_add_mod q.val 128)

theorem pay1_at (M : FVec Ideal S2816x8192 .f32) (p : Fin 2816) (q : Fin 8192) :
    k0_pay1 (F := Ideal) (k0_pay11 M) (k0_pay13 M) (ix2 p q) = code (M (ix2 p q)) (scale 1 fun l => M (ix2 p (col (blk q) l))) := by
  refine (quant_at _ _ p q).trans ?_
  rw [pay11_at, pay12_at, col_blk]

/-- The second moment's scales are computed as the first's, -/
theorem pay3_eq (M : FVec Ideal S2816x8192 .f32) : k0_pay3 (F := Ideal) M = k0_pay12 M := by
  unfold k0_pay3 k0_pay12 k0_pay2 k0_pay11
  rfl

/-- and its codes. -/
theorem pay4_eq (M : FVec Ideal S2816x8192 .f32) : k0_pay4 (F := Ideal) M = k0_pay1 (k0_pay11 M) (k0_pay13 M) := by
  unfold k0_pay4 k0_pay1 k0_pay13 k0_pay2 k0_pay11
  rw [pay3_eq]

end Cert.ReferenceIdeal.Own

end
-- ==== Proof.Reference.Arrays.lean ====
/- The reference's four quantised results, as the codes and scales of its moments. -/
module

public import proofs.«01_k».proof.Proof.Reference.Moments
public import Idealize.ShloMosaic.Lib.Claim

@[expose] public section

set_option maxRecDepth 16384

noncomputable section

namespace Cert.ReferenceIdeal.Own

open Cert.ReferenceIdeal.Gen
open Idealize.ShloMosaic Idealize.ShloMosaic.TcCoe Idealize.ShloMosaic.Tactic
open Cert.Quant (col blk codes scales)

variable (m : (ℓ : Loc nD τ sig) → Buf (Elt Ideal) ℓ)

/-- The loss scale. -/
abbrev ls (c : Dev nD) : EReal := m ((c : Thread nD τ).loc main_arg7) (fun a => a.elim0)

/-- The first moments of every row, -/
abbrev whole1 (c : Dev nD) : Fin 2816 → Fin 8192 → EReal :=
  mom1 (m ((c : Thread nD τ).loc main_arg2)) (m ((c : Thread nD τ).loc main_arg3)) (m ((c : Thread nD τ).loc main_arg1)) (ls m c)
/-- and the second. -/
abbrev whole2 (c : Dev nD) : Fin 2816 → Fin 8192 → EReal :=
  mom2 (m ((c : Thread nD τ).loc main_arg4)) (m ((c : Thread nD τ).loc main_arg5)) (m ((c : Thread nD τ).loc main_arg1)) (ls m c)

/-! ## Each window is its whole array -/

theorem ext2 {a b : ℕ} {x y : (⟨2, ![a, b]⟩ : Shape).Idx} (h0 : (x 0).val = (y 0).val) (h1 : (x 1).val = (y 1).val) : x = y := by
  funext k
  apply Fin.ext
  match k with
  | 0 => exact h0
  | 1 => exact h1

theorem at0 (n q : ℕ) : 0 * n + 1 * q = q := by omega

theorem blk1 (c : Dev nD) (t : Fin cfg0.N) : iblk m c 1 t = m ((c : Thread nD τ).loc main_arg1) := by
  rw [← V_main_arg1 m c]
  exact funext fun y => congrArg (V m c main_arg1) (ext2 (at0 2816 _) (at0 8192 _))
theorem blk2 (c : Dev nD) (t : Fin cfg0.N) : iblk m c 2 t = m ((c : Thread nD τ).loc main_arg2) := by
  rw [← V_main_arg2 m c]
  exact funext fun y => congrArg (V m c main_arg2) (ext2 (at0 2816 _) (at0 8192 _))
theorem blk3 (c : Dev nD) (t : Fin cfg0.N) : iblk m c 3 t = m ((c : Thread nD τ).loc main_arg3) := by
  rw [← V_main_arg3 m c]
  exact funext fun y => congrArg (V m c main_arg3) (ext2 (at0 2816 _) (at0 64 _))
theorem blk4 (c : Dev nD) (t : Fin cfg0.N) : iblk m c 4 t = m ((c : Thread nD τ).loc main_arg4) := by
  rw [← V_main_arg4 m c]
  exact funext fun y => congrArg (V m c main_arg4) (ext2 (at0 2816 _) (at0 8192 _))
theorem blk5 (c : Dev nD) (t : Fin cfg0.N) : iblk m c 5 t = m ((c : Thread nD τ).loc main_arg5) := by
  rw [← V_main_arg5 m c]
  exact funext fun y => congrArg (V m c main_arg5) (ext2 (at0 2816 _) (at0 64 _))
theorem blk7 (c : Dev nD) (t : Fin cfg0.N) : iblk m c 7 t (ix2 0 0) = ls m c := by
  show V m c main_v1 _ = _
  entry_read
  pointwise
  exact congrArg _ (funext fun a => a.elim0)

/-! ## The moments as the launch computes them -/

theorem ld_wide {e : EltTy} (x : Vec Ideal S2816x8192 e) : View.ld x r0_0 = x := View.ld_unit_lit _ _ (by decide)
theorem ld_narrow (x : Vec Ideal S2816x64 .f32) : View.ld x r0_2 = x := View.ld_unit_lit _ _ (by decide)
theorem ld_word (x : Vec Ideal S1x1 .f32) : View.ld x r0_1 = x := View.ld_unit_lit _ _ (by decide)

theorem m_at (c : Dev nD) (t : Fin cfg0.N) (p : Fin 2816) (q : Fin 8192) :
    k0_pay16 (iblk m c 0 t) (iblk m c 1 t) (iblk m c 2 t) (iblk m c 3 t) (iblk m c 4 t) (iblk m c 5 t) (iblk m c 6 t) (iblk m c 7 t) (ix2 p q)
      = whole1 m c p q := by
  unfold k0_pay16
  rw [ld_wide, ld_wide, ld_narrow, ld_word, pay7_at, blk1, blk2, blk3, blk7]

theorem v_at (c : Dev nD) (t : Fin cfg0.N) (p : Fin 2816) (q : Fin 8192) :
    k0_pay18 (iblk m c 0 t) (iblk m c 1 t) (iblk m c 2 t) (iblk m c 3 t) (iblk m c 4 t) (iblk m c 5 t) (iblk m c 6 t) (iblk m c 7 t) (ix2 p q)
      = whole2 m c p q := by
  unfold k0_pay18 k0_pay14 k0_pay15 k0_pay17
  rw [ld_wide, ld_wide, ld_narrow, ld_word, pay9_at, blk1, blk4, blk5, blk7]

/-! ## The arrays -/

theorem codes_of (X : FVec Ideal S2816x8192 .f32) (M : Fin 2816 → Fin 8192 → EReal) (h : ∀ p q, X (ix2 p q) = M p q) :
    k0_pay1 (F := Ideal) (k0_pay11 X) (k0_pay13 X) = codes 1 M := by
  funext y
  obtain ⟨p, q, rfl⟩ : ∃ p q, y = ix2 p q := ⟨y 0, y 1, ValueIdx.eq_ix2 y⟩
  rw [pay1_at]
  simp only [h]
  rfl

theorem scales_of (X : FVec Ideal S2816x8192 .f32) (M : Fin 2816 → Fin 8192 → EReal) (h : ∀ p q, X (ix2 p q) = M p q) :
    k0_pay12 (F := Ideal) X = scales 1 1 M := by
  funext y
  obtain ⟨p, b, rfl⟩ : ∃ p b, y = ix2 p b := ⟨y 0, y 1, ValueIdx.eq_ix2 y⟩
  rw [pay12_at]
  simp only [h]
  exact (mul_one _).symm

theorem arr9 (c : Dev nD) : (Gen.dats m 0 c).arrAt 9 cfg0.N = codes 1 (whole1 m c) := by
  refine (Gen.dats m 0 c).arrAt_eq_of_covers 9 _ (by decide +kernel) fun t hf y => ?_
  blk_simp
  rw [after0_9]
  frame_out
  rw [codes_of _ _ (m_at m c t)]
  exact congrArg (codes 1 (whole1 m c)) (ext2 (at0 2816 _) (at0 8192 _)).symm

theorem arr10 (c : Dev nD) : (Gen.dats m 0 c).arrAt 10 cfg0.N = scales 1 1 (whole1 m c) := by
  refine (Gen.dats m 0 c).arrAt_eq_of_covers 10 _ (by decide +kernel) fun t hf y => ?_
  blk_simp
  rw [after0_10]
  frame_out
  rw [scales_of _ _ (m_at m c t)]
  exact congrArg (scales 1 1 (whole1 m c)) (ext2 (at0 2816 _) (at0 64 _)).symm

theorem arr11 (c : Dev nD) : (Gen.dats m 0 c).arrAt 11 cfg0.N = codes 1 (whole2 m c) := by
  refine (Gen.dats m 0 c).arrAt_eq_of_covers 11 _ (by decide +kernel) fun t hf y => ?_
  blk_simp
  rw [after0_11]
  frame_out
  rw [pay4_eq, codes_of _ _ (v_at m c t)]
  exact congrArg (codes 1 (whole2 m c)) (ext2 (at0 2816 _) (at0 8192 _)).symm

theorem arr12 (c : Dev nD) : (Gen.dats m 0 c).arrAt 12 cfg0.N = scales 1 1 (whole2 m c) := by
  refine (Gen.dats m 0 c).arrAt_eq_of_covers 12 _ (by decide +kernel) fun t hf y => ?_
  blk_simp
  rw [after0_12]
  frame_out
  rw [pay3_eq, scales_of _ _ (v_at m c t)]
  exact congrArg (scales 1 1 (whole2 m c)) (ext2 (at0 2816 _) (at0 64 _)).symm

end Cert.ReferenceIdeal.Own

end
-- ==== Proof.Tie.lean ====
/- The moments of the two launches: the first alike, the second ten times over. -/
module

public import proofs.«01_k».proof.Proof.Algebra
public import proofs.«01_k».proof.Proof.KernelIdeal.Final
public import proofs.«01_k».proof.Proof.Reference.Arrays

@[expose] public section

set_option maxRecDepth 16384

noncomputable section

namespace Cert.Tie

open Idealize.ShloMosaic
open Cert.Algebra (ten')
open Cert.Quant (codes scales)

theorem tenthK : Named.named (F := Ideal) Cert.KernelIdeal.κ "tenth" (φ := .f32) 0x3DCCCCCD#32 = ((1 / 10 : ℝ) : EReal) :=
  IdealRules.named_const.ideal_named_scalar _ _ _ _ rfl
theorem hundredth : Named.named (F := Ideal) Cert.KernelIdeal.κ "hundredth" (φ := .f32) 0x3C23D70A#32 = ((1 / 100 : ℝ) : EReal) :=
  IdealRules.named_const.ideal_named_scalar _ _ _ _ rfl
theorem tenthR : Named.named (F := Ideal) Cert.ReferenceIdeal.κ "tenth" (φ := .f32) 0x3DCCCCCD#32 = ((1 / 10 : ℝ) : EReal) :=
  IdealRules.named_const.ideal_named_scalar _ _ _ _ rfl
theorem thousandth : Named.named (F := Ideal) Cert.ReferenceIdeal.κ "thousandth" (φ := .f32) 0x3A83126F#32 = ((1 / 1000 : ℝ) : EReal) :=
  IdealRules.named_const.ideal_named_scalar _ _ _ _ rfl

variable (c8 : (⟨2, ![2816, 8192]⟩ : Shape).Idx → BitVec 8) (s : (⟨2, ![2816, 64]⟩ : Shape).Idx → EReal) (G : (⟨2, ![2816, 8192]⟩ : Shape).Idx → EReal) (v : EReal)

/-- A step's gradient times the coefficient is a tenth of the clipped gradient. -/
theorem clipped (p : Fin 2816) (q : Fin 8192) :
    G (ix2 p q) * (Cert.KernelIdeal.Own.coefOf G v * Named.named (F := Ideal) Cert.KernelIdeal.κ "tenth" (φ := .f32) 0x3DCCCCCD#32)
      = ((1 / 10 : ℝ) : EReal) * Cert.ReferenceIdeal.Own.clipped G v p q := by
  rw [tenthK]
  exact Cert.Algebra.clipped_eq (fun p q => G (ix2 p q)) v _ p q

theorem first : Cert.KernelIdeal.Own.mom1 (n := 2816) c8 s (fun p q => G (ix2 p q))
      (Cert.KernelIdeal.Own.coefOf G v * Named.named (F := Ideal) Cert.KernelIdeal.κ "tenth" (φ := .f32) 0x3DCCCCCD#32)
    = Cert.ReferenceIdeal.Own.mom1 c8 s G v := by
  funext p q
  unfold Cert.KernelIdeal.Own.mom1 Cert.ReferenceIdeal.Own.mom1
  rw [tenthR]
  exact Cert.Algebra.first _ _ _ _ _ (clipped G v p q)

theorem second : Cert.KernelIdeal.Own.mom2 (n := 2816) c8 s (fun p q => G (ix2 p q))
      (Cert.KernelIdeal.Own.coefOf G v * Named.named (F := Ideal) Cert.KernelIdeal.κ "tenth" (φ := .f32) 0x3DCCCCCD#32)
    = fun p q => ten' * Cert.ReferenceIdeal.Own.mom2 c8 s G v p q := by
  funext p q
  unfold Cert.KernelIdeal.Own.mom2 Cert.ReferenceIdeal.Own.mom2
  rw [hundredth, thousandth, Cert.Algebra.ten]
  exact Cert.Algebra.second _ _ _ _ (clipped G v p q)

/-! ## The kernel's four results, by the reference's moments -/

section Kernel
open Cert.KernelIdeal Cert.KernelIdeal.Named Cert.KernelIdeal.Own Idealize.ShloMosaic.TcCoe

variable (m : (ℓ : Loc nD τ sig) → Buf (Elt Ideal) ℓ) (c : Dev nD)

theorem whole1_eq : whole1 m c = Cert.ReferenceIdeal.Own.mom1 (m ((c : Thread nD τ).loc main_arg2)) (m ((c : Thread nD τ).loc main_arg3)) (m ((c : Thread nD τ).loc main_arg1)) (Named.ls m c) := by
  unfold whole1
  rw [coefX_eq, V_of m c main_arg1 (by decide) (by decide), V_of m c main_arg2 (by decide) (by decide), V_of m c main_arg3 (by decide) (by decide)]
  exact first _ _ _ _

theorem whole2_eq : whole2 m c = fun p q => ten' * Cert.ReferenceIdeal.Own.mom2 (m ((c : Thread nD τ).loc main_arg4)) (m ((c : Thread nD τ).loc main_arg5)) (m ((c : Thread nD τ).loc main_arg1)) (Named.ls m c) p q := by
  unfold whole2
  rw [coefX_eq, V_of m c main_arg1 (by decide) (by decide), V_of m c main_arg4 (by decide) (by decide), V_of m c main_arg5 (by decide) (by decide)]
  exact second _ _ _ _

theorem one : Scalar.ofBits (F := Ideal) .f32 0x3F800000#32 = (1 : EReal) := Ideal.ofBits_one_f32
theorem ten : Scalar.ofBits (F := Ideal) .f32 0x41200000#32 = ten' := Cert.Algebra.ten

theorem codes1 : codes (Scalar.ofBits (F := Ideal) .f32 0x3F800000#32) (whole1 m c)
    = codes 1 (Cert.ReferenceIdeal.Own.mom1 (m ((c : Thread nD τ).loc main_arg2)) (m ((c : Thread nD τ).loc main_arg3)) (m ((c : Thread nD τ).loc main_arg1)) (Named.ls m c)) := by
  rw [whole1_eq, one]

theorem scales1 : scales (Scalar.ofBits (F := Ideal) .f32 0x3F800000#32) (Scalar.ofBits (F := Ideal) .f32 0x3F800000#32) (whole1 m c)
    = scales 1 1 (Cert.ReferenceIdeal.Own.mom1 (m ((c : Thread nD τ).loc main_arg2)) (m ((c : Thread nD τ).loc main_arg3)) (m ((c : Thread nD τ).loc main_arg1)) (Named.ls m c)) := by
  rw [whole1_eq, one]

theorem codes2 : codes (Scalar.ofBits (F := Ideal) .f32 0x41200000#32) (whole2 m c)
    = codes 1 (Cert.ReferenceIdeal.Own.mom2 (m ((c : Thread nD τ).loc main_arg4)) (m ((c : Thread nD τ).loc main_arg5)) (m ((c : Thread nD τ).loc main_arg1)) (Named.ls m c)) := by
  rw [whole2_eq, ten, Cert.Algebra.codes_ten]

theorem scales2 : scales (Scalar.ofBits (F := Ideal) .f32 0x41200000#32) (Named.named (F := Ideal) κ "tenth" (φ := .f32) 0x3DCCCCCD#32) (whole2 m c)
    = scales 1 1 (Cert.ReferenceIdeal.Own.mom2 (m ((c : Thread nD τ).loc main_arg4)) (m ((c : Thread nD τ).loc main_arg5)) (m ((c : Thread nD τ).loc main_arg1)) (Named.ls m c)) := by
  rw [whole2_eq, ten, tenthK, Cert.Algebra.scales_ten]

end Kernel

end Cert.Tie

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.On_claimed
public import proofs.«01_k».proof.Proof.Kernel.Frame
public import proofs.«01_k».proof.Proof.KernelIdeal.Frame
public import proofs.«01_k».proof.Proof.Tie

@[expose] public section

noncomputable section

namespace Cert.Proof

open Idealize.ShloMosaic Idealize.SL.Sem
open Cert.Quant (codes scales)

/-- The first moment over the kernel's argument arrays, as the reference states it, -/
abbrev M1 (m : (ℓ : Loc Cert.KernelIdeal.nD Cert.KernelIdeal.τ Cert.KernelIdeal.sig) → Buf (Elt Ideal) ℓ) (c : Dev Cert.KernelIdeal.nD) : Fin 2816 → Fin 8192 → EReal :=
  Cert.ReferenceIdeal.Own.mom1 (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg1)) (Cert.KernelIdeal.Named.ls m c)

/-- and the second. -/
abbrev M2 (m : (ℓ : Loc Cert.KernelIdeal.nD Cert.KernelIdeal.τ Cert.KernelIdeal.sig) → Buf (Elt Ideal) ℓ) (c : Dev Cert.KernelIdeal.nD) : Fin 2816 → Fin 8192 → EReal :=
  Cert.ReferenceIdeal.Own.mom2 (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg1)) (Cert.KernelIdeal.Named.ls m c)

/-- The two launches leave the same four quantised arrays. -/
theorem values [Cert.On_claimed.Facts] : Cert.algebraic_KernelIdeal_ReferenceIdeal_on_claimed := by
  intro m g m' g' _ hag
  refine ⟨fun c => m _, fun c => codes 1 (M1 m c), fun c => scales 1 1 (M1 m c), fun c => codes 1 (M2 m c), fun c => scales 1 1 (M2 m c), ?_, ?_⟩
  · refine (θ_run _ _ _).mono (fun r h c => ?_) (Cert.KernelIdeal.Named.run_values m g)
    obtain ⟨e1, e2, e3, e4⟩ := h.2 c
    exact ⟨fun i hi => absurd hi (by decide : (0#1 : BitVec 1) ≠ 1#1),
      fun i _ => congrFun (e1.trans (Cert.Tie.codes1 m c)) i, fun i _ => congrFun (e2.trans (Cert.Tie.scales1 m c)) i,
      fun i _ => congrFun (e3.trans (Cert.Tie.codes2 m c)) i, fun i _ => congrFun (e4.trans (Cert.Tie.scales2 m c)) i, h.1 c⟩
  · refine (θ_run _ _ _).mono (fun r h c => ?_) (Cert.ReferenceIdeal.Value.run_blocks m' g')
    obtain ⟨_, e1, e2, e3, e4, hargs⟩ := h c
    obtain ⟨_, a1, a2, a3, a4, a5, _, a7⟩ := hag c
    have hl : Cert.ReferenceIdeal.Own.ls m' c = Cert.KernelIdeal.Named.ls m c := congrFun a7 _
    have w1 : Cert.ReferenceIdeal.Own.whole1 m' c = M1 m c := by
      unfold Cert.ReferenceIdeal.Own.whole1 M1
      rw [hl, ← a1, ← a2, ← a3]
    have w2 : Cert.ReferenceIdeal.Own.whole2 m' c = M2 m c := by
      unfold Cert.ReferenceIdeal.Own.whole2 M2
      rw [hl, ← a1, ← a4, ← a5]
    have f1 := (e1.trans (Cert.ReferenceIdeal.Own.arr9 m' c)).trans (congrArg (codes 1) w1)
    have f2 := (e2.trans (Cert.ReferenceIdeal.Own.arr10 m' c)).trans (congrArg (scales 1 1) w1)
    have f3 := (e3.trans (Cert.ReferenceIdeal.Own.arr11 m' c)).trans (congrArg (codes 1) w2)
    have f4 := (e4.trans (Cert.ReferenceIdeal.Own.arr12 m' c)).trans (congrArg (scales 1 1) w2)
    exact ⟨fun i hi => absurd hi (by decide : (0#1 : BitVec 1) ≠ 1#1),
      fun i _ => congrFun f1 i, fun i _ => congrFun f2 i, fun i _ => congrFun f3 i, fun i _ => congrFun f4 i, hargs⟩

theorem claim : Cert.Claim :=
  ⟨Cert.Kernel.Gen.facts, Cert.KernelIdeal.Gen.facts, Cert.ReferenceIdeal.Gen.facts, Cert.On_claimed.Gen.facts,
    fun m ρ _ => Cert.Kernel.Own.frame m ρ, fun m ρ _ => Cert.KernelIdeal.Own.frame m ρ, fun m ρ _ => Cert.ReferenceIdeal.Gen.frame m ρ,
    ⟨IdealRules.named_const.statement Cert.KernelIdeal.κ "tenth" .f32 0x3DCCCCCD#32 _ rfl,
      IdealRules.named_const.statement Cert.KernelIdeal.κ "hundredth" .f32 0x3C23D70A#32 _ rfl⟩,
    @values Cert.On_claimed.Gen.facts⟩

end Cert.Proof

end
